-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tanner_graph [hPre_tanner_graph : Cert.Pre_tanner_graph.Facts] (m : (ℓ : Loc Cert.KernelIdeal.nD Cert.KernelIdeal.τ Cert.KernelIdeal.sig) → Buf (Elt Ideal) ℓ) : Prop :=
  ∀ c : Dev Cert.KernelIdeal.nD,
    (Cert.Pre_tanner_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tanner_graph [hPre_tanner_graph : Cert.Pre_tanner_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tanner_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tanner_graph [hKernelIdeal : Cert.KernelIdeal.Facts] [hPre_tanner_graph : Cert.Pre_tanner_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tanner_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tanner_graph [hReferenceIdeal : Cert.ReferenceIdeal.Facts] [hPre_tanner_graph : Cert.Pre_tanner_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tanner_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tanner_graph [hKernelIdeal : Cert.KernelIdeal.Facts] [hReferenceIdeal : Cert.ReferenceIdeal.Facts] [hPre_tanner_graph : Cert.Pre_tanner_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tanner_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tanner_graph : Cert.Pre_tanner_graph.Facts),
    quiescent_Kernel (hKernel := hKernel)
    ∧ quiescent_KernelIdeal (hKernelIdeal := hKernelIdeal)
    ∧ quiescent_KernelIdeal_pre_tanner_graph (hKernelIdeal := hKernelIdeal) (hPre_tanner_graph := hPre_tanner_graph)
    ∧ quiescent_ReferenceIdeal (hReferenceIdeal := hReferenceIdeal)
    ∧ quiescent_ReferenceIdeal_pre_tanner_graph (hReferenceIdeal := hReferenceIdeal) (hPre_tanner_graph := hPre_tanner_graph)
    ∧ preserves_Kernel_KernelIdeal
    ∧ algebraic_KernelIdeal_ReferenceIdeal_pre_tanner_graph (hKernelIdeal := hKernelIdeal) (hReferenceIdeal := hReferenceIdeal) (hPre_tanner_graph := hPre_tanner_graph)
-- ==== Pre_tanner_graph.lean ====
abbrev S256x768 : Shape := ⟨2, ![256, 768]⟩
abbrev S19x3072x3072 : Shape := ⟨3, ![19, 3072, 3072]⟩
abbrev S768x3072 : Shape := ⟨2, ![768, 3072]⟩
abbrev S20x768x768 : Shape := ⟨3, ![20, 768, 768]⟩
abbrev S768x768 : Shape := ⟨2, ![768, 768]⟩
abbrev S3072x768 : Shape := ⟨2, ![3072, 768]⟩
abbrev S3072x3072 : Shape := ⟨2, ![3072, 3072]⟩
abbrev S19x768x768 : Shape := ⟨3, ![19, 768, 768]⟩
abbrev S1x768x768 : Shape := ⟨3, ![1, 768, 768]⟩
abbrev S_ : Shape := ⟨0, ![]⟩
abbrev S3072 : Shape := ⟨1, ![3072]⟩

class Facts : Prop where
  slices_S20x768x768_S19x768x768_0_0_0 : S20x768x768.Slices ![0, 0, 0] S19x768x768
  slices_S20x768x768_S1x768x768_0_0_0 : S20x768x768.Slices ![0, 0, 0] S1x768x768
  bcast_S1x768x768_S19x768x768_0_1_2 : S1x768x768.BroadcastsInDim S19x768x768 (![0, 1, 2] : Fin 3 → Fin S19x768x768.rank)
  reducesTo_S19x768x768_S_d0_1_2 : S19x768x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  reducesTo_S3072x768_S3072_d1 : S3072x768.ReducesTo [1] S3072
  bcast_S_S3072 : S_.BroadcastsInDim S3072 (![] : Fin 0 → Fin S3072.rank)
  reducesTo_S3072_S_d0 : S3072.ReducesTo [0] S_
  bcast_S_S3072x3072 : S_.BroadcastsInDim S3072x3072 (![] : Fin 0 → Fin S3072x3072.rank)
  reducesTo_S3072x3072_S_d0_1 : S3072x3072.ReducesTo [0, 1] S_
  reducesTo_S3072x3072_S3072_d1 : S3072x3072.ReducesTo [1] S3072

variable [Facts]

def fn_part1 {F : FTy → Type} [FloatOps F] (main_arg7 : FVec F S3072x3072 .f32) (main_v16 : IVec S_ 1) : IVec S_ 1 :=
  let main_cst_5 : FVec F S_ .f32 := constant S_ .f32 0x00000000#32
  let main_v17 : FVec F S3072x3072 .f32 := broadcastInDim S3072x3072 ![] bcast_S_S3072x3072 main_cst_5
  let main_v18 : IVec S3072x3072 1 := cmpf .oeq main_arg7 main_v17
  let main_cst_6 : FVec F S_ .f32 := constant S_ .f32 0x3F800000#32
  let main_v19 : FVec F S3072x3072 .f32 := broadcastInDim S3072x3072 ![] bcast_S_S3072x3072 main_cst_6
  let main_v20 : IVec S3072x3072 1 := cmpf .oeq main_arg7 main_v19
  let main_v21 : IVec S3072x3072 1 := ori main_v18 main_v20
  let main_c_7 : IVec S_ 1 := constantI S_ 1 1#1
  let main_v22 : IVec S_ 1 := (fun x v => Host.reduce IntOp.andi x v reducesTo_S3072x3072_S_d0_1 h_S_) main_v21 main_c_7
  let main_cst_8 : FVec F S_ .f32 := constant S_ .f32 0x00000000#32
  let main_v23 : FVec F S3072 .f32 := (fun x v => Host.reduceAdd x v reducesTo_S3072x3072_S3072_d1 h_S_) main_arg7 main_cst_8
  let main_cst_9 : FVec F S_ .f32 := constant S_ .f32 0x40E00000#32
  let main_v24 : FVec F S3072 .f32 := broadcastInDim S3072 ![] bcast_S_S3072 main_cst_9
  let main_v25 : IVec S3072 1 := cmpf .ole main_v23 main_v24
  let main_c_10 : IVec S_ 1 := constantI S_ 1 1#1
  let main_v26 : IVec S_ 1 := (fun x v => Host.reduce IntOp.andi x v reducesTo_S3072_S_d0 h_S_) main_v25 main_c_10
  let main_v27 : IVec S_ 1 := andi main_v22 main_v26
  let main_v28 : IVec S_ 1 := andi main_v16 main_v27
  main_v28

def fn {F : FTy → Type} [FloatOps F] (main_arg0 : FVec F S256x768 .f32) (main_arg1 : FVec F S19x3072x3072 .f32) (main_arg2 : FVec F S768x3072 .f32) (main_arg3 : FVec F S20x768x768 .f32) (main_arg4 : FVec F S768x3072 .f32) (main_arg5 : FVec F S768x768 .f32) (main_arg6 : FVec F S3072x768 .f32) (main_arg7 : FVec F S3072x3072 .f32) : IVec S_ 1 :=
  let main_v0 : FVec F S19x768x768 .f32 := (extractStridedSlice S19x768x768 ![0, 0, 0] · slices_S20x768x768_S19x768x768_0_0_0) main_arg3
  let main_v1 : FVec F S1x768x768 .f32 := (extractStridedSlice S1x768x768 ![0, 0, 0] · slices_S20x768x768_S1x768x768_0_0_0) main_arg3
  let main_v2 : FVec F S19x768x768 .f32 := broadcastInDim S19x768x768 ![0, 1, 2] bcast_S1x768x768_S19x768x768_0_1_2 main_v1
  let main_v3 : IVec S19x768x768 1 := cmpf .oeq main_v0 main_v2
  let main_c : IVec S_ 1 := constantI S_ 1 1#1
  let main_v4 : IVec S_ 1 := (fun x v => Host.reduce IntOp.andi x v reducesTo_S19x768x768_S_d0_1_2 h_S_) main_v3 main_c
  let main_cst : FVec F S_ .f32 := constant S_ .f32 0x00000000#32
  let main_v5 : FVec F S3072x768 .f32 := broadcastInDim S3072x768 ![] bcast_S_S3072x768 main_cst
  let main_v6 : IVec S3072x768 1 := cmpf .oeq main_arg6 main_v5
  let main_cst_0 : FVec F S_ .f32 := constant S_ .f32 0x3F800000#32
  let main_v7 : FVec F S3072x768 .f32 := broadcastInDim S3072x768 ![] bcast_S_S3072x768 main_cst_0
  let main_v8 : IVec S3072x768 1 := cmpf .oeq main_arg6 main_v7
  let main_v9 : IVec S3072x768 1 := ori main_v6 main_v8
  let main_c_1 : IVec S_ 1 := constantI S_ 1 1#1
  let main_v10 : IVec S_ 1 := (fun x v => Host.reduce IntOp.andi x v reducesTo_S3072x768_S_d0_1 h_S_) main_v9 main_c_1
  let main_cst_2 : FVec F S_ .f32 := constant S_ .f32 0x00000000#32
  let main_v11 : FVec F S3072 .f32 := (fun x v => Host.reduceAdd x v reducesTo_S3072x768_S3072_d1 h_S_) main_arg6 main_cst_2
  let main_cst_3 : FVec F S_ .f32 := constant S_ .f32 0x40E00000#32
  let main_v12 : FVec F S3072 .f32 := broadcastInDim S3072 ![] bcast_S_S3072 main_cst_3
  let main_v13 : IVec S3072 1 := cmpf .ole main_v11 main_v12
  let main_c_4 : IVec S_ 1 := constantI S_ 1 1#1
  let main_v14 : IVec S_ 1 := (fun x v => Host.reduce IntOp.andi x v reducesTo_S3072_S_d0 h_S_) main_v13 main_c_4
  let main_v15 : IVec S_ 1 := andi main_v10 main_v14
  let main_v16 : IVec S_ 1 := andi main_v4 main_v15
  fn_part1 (F := F) main_arg7 main_v16
-- ==== Kernel.lean ====
abbrev S256x768 : Shape := ⟨2, ![256, 768]⟩
abbrev S19x3072x3072 : Shape := ⟨3, ![19, 3072, 3072]⟩
abbrev S768x3072 : Shape := ⟨2, ![768, 3072]⟩
abbrev S20x768x768 : Shape := ⟨3, ![20, 768, 768]⟩
abbrev S768x768 : Shape := ⟨2, ![768, 768]⟩
abbrev S3072x768 : Shape := ⟨2, ![3072, 768]⟩
abbrev S3072x3072 : Shape := ⟨2, ![3072, 3072]⟩
abbrev S1x768x768 : Shape := ⟨3, ![1, 768, 768]⟩
abbrev S256x3072 : Shape := ⟨2, ![256, 3072]⟩
abbrev S512x3072 : Shape := ⟨2, ![512, 3072]⟩
abbrev S4x512x3072 : Shape := ⟨3, ![4, 512, 3072]⟩
abbrev S4 : Shape := ⟨1, ![4]⟩
abbrev S_ : Shape := ⟨0, ![]⟩
abbrev S1 : Shape := ⟨1, ![1]⟩
abbrev S1x512x3072 : Shape := ⟨3, ![1, 512, 3072]⟩
abbrev S256x512 : Shape := ⟨2, ![256, 512]⟩
abbrev S512x512 : Shape := ⟨2, ![512, 512]⟩
abbrev S1x256x3072 : Shape := ⟨3, ![1, 256, 3072]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S256x768, .f32⟩
  | .hbm, ⟨1, _⟩ => ⟨S19x3072x3072, .f32⟩
  | .hbm, ⟨2, _⟩ => ⟨S768x3072, .f32⟩
  | .hbm, ⟨3, _⟩ => ⟨S20x768x768, .f32⟩
  | .hbm, ⟨4, _⟩ => ⟨S768x3072, .f32⟩
  | .hbm, ⟨5, _⟩ => ⟨S768x768, .f32⟩
  | .hbm, ⟨6, _⟩ => ⟨S3072x768, .f32⟩
  | .hbm, ⟨7, _⟩ => ⟨S3072x3072, .f32⟩
  | .hbm, ⟨8, _⟩ => ⟨S1x768x768, .f32⟩
  | .hbm, ⟨9, _⟩ => ⟨S768x768, .f32⟩
  | .hbm, ⟨10, _⟩ => ⟨S1x768x768, .f32⟩
  | .hbm, ⟨11, _⟩ => ⟨S768x768, .f32⟩
  | .hbm, ⟨12, _⟩ => ⟨S256x3072, .f32⟩
  | .hbm, ⟨13, _⟩ => ⟨S256x3072, .f32⟩
  | .hbm, ⟨14, _⟩ => ⟨S256x768, .f32⟩
  | .hbm, ⟨15, _⟩ => ⟨S256x768, .f32⟩
  | .local _ .vmem, ⟨0, _⟩ => ⟨S256x768, .f32⟩
  | .local _ .vmem, ⟨1, _⟩ => ⟨S3072x768, .f32⟩
  | .local _ .vmem, ⟨2, _⟩ => ⟨S768x768, .f32⟩
  | .local _ .vmem, ⟨3, _⟩ => ⟨S768x3072, .f32⟩
  | .local _ .vmem, ⟨4, _⟩ => ⟨S768x768, .f32⟩
  | .local _ .vmem, ⟨5, _⟩ => ⟨S768x768, .f32⟩
  | .local _ .vmem, ⟨6, _⟩ => ⟨S256x3072, .f32⟩
  | .local _ .vmem, ⟨7, _⟩ => ⟨S256x3072, .f32⟩
  | .local _ .vmem, ⟨8, _⟩ => ⟨S256x768, .f32⟩
  | .local _ .vmem, ⟨9, _⟩ => ⟨S256x3072, .f32⟩
  | .local _ .vmem, ⟨10, _⟩ => ⟨S512x3072, .bf16⟩
  | .local _ .vmem, ⟨11, _⟩ => ⟨S3072x3072, .bf16⟩
  | .local _ .vmem, ⟨12, _⟩ => ⟨S256x3072, .f32⟩
  | .local _ .vmem, ⟨13, _⟩ => ⟨S4x512x3072, .f32⟩
  | .local _ .vmem, ⟨14, _⟩ => ⟨S256x768, .f32⟩
  | .local _ .vmem, ⟨15, _⟩ => ⟨S256x768, .f32⟩
  | .local _ .vmem, ⟨16, _⟩ => ⟨S256x3072, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc1_scratch5 : Ref sig .tc := ⟨.vmem, 14, rfl⟩
abbrev cc1_scratch6 : Ref sig .tc := ⟨.vmem, 15, rfl⟩
abbrev cc1_scratch7 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![19, 12], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_off1 (c0_i32_19 : BitVec 32) : Fin 1 → Nat :=
  let c4_i32_20 : BitVec 32 := 4#32
  let v37 : BitVec 32 := Scalar.remsi c0_i32_19 c4_i32_20
  ![v37.toNat]
def k1_off2 (c0_i32_18 : BitVec 32) : Fin 3 → Nat :=
  let c4_i32 : BitVec 32 := 4#32
  let v36 : BitVec 32 := Scalar.remsi c0_i32_18 c4_i32
  let c0_i32_21 : BitVec 32 := 0#32
  let c0_i32_22 : BitVec 32 := 0#32
  ![v36.toNat, 0, 0]
def k1_off3 (c0_i32_14 : BitVec 32) (c0_i32_16 : BitVec 32) : Fin 3 → Nat :=
  let c6_i32_15 : BitVec 32 := 6#32
  let v33 : BitVec 32 := Scalar.divsi c0_i32_14 c6_i32_15
  let c6_i32_17 : BitVec 32 := 6#32
  let v34 : BitVec 32 := Scalar.remsi c0_i32_16 c6_i32_17
  let c512_i32 : BitVec 32 := 512#32
  let v35 : BitVec 32 := Scalar.muli v34 c512_i32
  let c0_i32_23 : BitVec 32 := 0#32
  ![v33.toNat, v35.toNat, 0]
def k1_off3_at (r : Fin 4) : BitVec 32 × BitVec 32 :=
  if r.val < 2 then
    if r.val < 1 then
      (0#32, 0#32)
    else
      (1#32, 1#32)
  else
    if r.val < 3 then
      (2#32, 2#32)
    else
      (3#32, 3#32)
def k1_cond2 (i : grid1.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k1_off4 (i : grid1.Coords) : Fin 2 → Nat :=
  let arg1 : BitVec 32 := BitVec.ofNat 32 (i 1).val
  let c256_i32 : BitVec 32 := 256#32
  let v24 : BitVec 32 := Scalar.muli arg1 c256_i32
  let c0_i32_11 : BitVec 32 := 0#32
  ![v24.toNat, 0]
def k1_off5 (i : grid1.Coords) : Fin 2 → Nat :=
  let arg1 : BitVec 32 := BitVec.ofNat 32 (i 1).val
  let c256_i32_13 : BitVec 32 := 256#32
  let v30 : BitVec 32 := Scalar.muli arg1 c256_i32_13
  let v31 : Index := Scalar.indexCast v30
  let c0_14 : Index := 0#32
  ![v31.toNat, 0]
def k1_cond3 (i : grid1.Coords) : BitVec 1 :=
  let arg1 : BitVec 32 := BitVec.ofNat 32 (i 1).val
  let c11_i32_15 : BitVec 32 := 11#32
  let v35 : BitVec 1 := Scalar.cmpi .slt arg1 c11_i32_15
  let v36 : BitVec 32 := Scalar.extui v35
  let c0_i32_16 : BitVec 32 := 0#32
  let v37 : BitVec 1 := Scalar.cmpi .ne v36 c0_i32_16
  v37

def k1_off6 (i : grid1.Coords) : Fin 2 → Nat :=
  let arg1 : BitVec 32 := BitVec.ofNat 32 (i 1).val
  let c1_i32 : BitVec 32 := 1#32
  let v38 : BitVec 32 := Scalar.addi arg1 c1_i32
  let c256_i32_17 : BitVec 32 := 256#32
  let v39 : BitVec 32 := Scalar.muli v38 c256_i32_17
  let c0_i32_19 : BitVec 32 := 0#32
  ![v39.toNat, 0]
def k1_cond4 (i : grid1.Coords) : BitVec 1 :=
  let arg1 : BitVec 32 := BitVec.ofNat 32 (i 1).val
  let c6_i32 : BitVec 32 := 6#32
  let v8 : BitVec 1 := Scalar.cmpi .slt arg1 c6_i32
  let v9 : BitVec 32 := Scalar.extui v8
  let c0_i32_4 : BitVec 32 := 0#32
  let v10 : BitVec 1 := Scalar.cmpi .ne v9 c0_i32_4
  v10

def k1_off7 (i : grid1.Coords) : Fin 1 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c4_i32_14 : BitVec 32 := 4#32
  let v30 : BitVec 32 := Scalar.remsi v25 c4_i32_14
  ![v30.toNat]
def k1_off8 (i : grid1.Coords) : Fin 3 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c4_i32 : BitVec 32 := 4#32
  let v29 : BitVec 32 := Scalar.remsi v25 c4_i32
  let c0_i32_15 : BitVec 32 := 0#32
  let c0_i32_16 : BitVec 32 := 0#32
  ![v29.toNat, 0, 0]
def k1_off9 (i : grid1.Coords) : Fin 3 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c6_i32_12 : BitVec 32 := 6#32
  let v26 : BitVec 32 := Scalar.divsi v25 c6_i32_12
  let c6_i32_13 : BitVec 32 := 6#32
  let v27 : BitVec 32 := Scalar.remsi v25 c6_i32_13
  let c512_i32 : BitVec 32 := 512#32
  let v28 : BitVec 32 := Scalar.muli v27 c512_i32
  let c0_i32_17 : BitVec 32 := 0#32
  ![v26.toNat, v28.toNat, 0]
def k1_off10 (i : grid1.Coords) : Fin 3 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c4_i32_18 : BitVec 32 := 4#32
  let v37 : BitVec 32 := Scalar.remsi v25 c4_i32_18
  let v39 : Index := Scalar.indexCast v37
  let c0_20 : Index := 0#32
  let c0_21 : Index := 0#32
  ![v39.toNat, 0, 0]
def k1_off11 (i : grid1.Coords) : Fin 2 → Nat :=
  let c0_23 : Index := 0#32
  let arg1 : BitVec 32 := BitVec.ofNat 32 (i 1).val
  let c512_i32_22 : BitVec 32 := 512#32
  let v43 : BitVec 32 := Scalar.muli arg1 c512_i32_22
  let v44 : Index := Scalar.indexCast v43
  ![0, v44.toNat]
def k1_off12 (i : grid1.Coords) : Fin 2 → Nat :=
  let c0_30 : Index := 0#32
  let arg1 : BitVec 32 := BitVec.ofNat 32 (i 1).val
  let c512_i32_29 : BitVec 32 := 512#32
  let v66 : BitVec 32 := Scalar.muli arg1 c512_i32_29
  let v67 : Index := Scalar.indexCast v66
  ![0, v67.toNat]
def k1_off13 (i : grid1.Coords) : Fin 2 → Nat :=
  let c256 : Index := 256#32
  let arg1 : BitVec 32 := BitVec.ofNat 32 (i 1).val
  let c512_i32_31 : BitVec 32 := 512#32
  let v72 : BitVec 32 := Scalar.muli arg1 c512_i32_31
  let v73 : Index := Scalar.indexCast v72
  ![256, v73.toNat]
def k1_cond5 (i : grid1.Coords) : BitVec 1 :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c1_i32 : BitVec 32 := 1#32
  let v77 : BitVec 1 := Scalar.cmpi .sge v25 c1_i32
  let v78 : BitVec 32 := Scalar.extui v77
  let c0_i32_32 : BitVec 32 := 0#32
  let v79 : BitVec 1 := Scalar.cmpi .ne v78 c0_i32_32
  v79

def k1_cond6 (i : grid1.Coords) : BitVec 1 :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c1_i32_33 : BitVec 32 := 1#32
  let v80 : BitVec 32 := Scalar.subi v25 c1_i32_33
  let c4_i32_34 : BitVec 32 := 4#32
  let v81 : BitVec 32 := Scalar.addi v80 c4_i32_34
  let c114_i32 : BitVec 32 := 114#32
  let v82 : BitVec 1 := Scalar.cmpi .slt v81 c114_i32
  let v83 : BitVec 32 := Scalar.extui v82
  let c0_i32_35 : BitVec 32 := 0#32
  let v84 : BitVec 1 := Scalar.cmpi .ne v83 c0_i32_35
  v84

def k1_off14 (i : grid1.Coords) : Fin 1 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c1_i32_33 : BitVec 32 := 1#32
  let v80 : BitVec 32 := Scalar.subi v25 c1_i32_33
  let c4_i32_34 : BitVec 32 := 4#32
  let v81 : BitVec 32 := Scalar.addi v80 c4_i32_34
  let c4_i32_40 : BitVec 32 := 4#32
  let v89 : BitVec 32 := Scalar.remsi v81 c4_i32_40
  ![v89.toNat]
def k1_off15 (i : grid1.Coords) : Fin 3 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c1_i32_33 : BitVec 32 := 1#32
  let v80 : BitVec 32 := Scalar.subi v25 c1_i32_33
  let c4_i32_34 : BitVec 32 := 4#32
  let v81 : BitVec 32 := Scalar.addi v80 c4_i32_34
  let c4_i32_39 : BitVec 32 := 4#32
  let v88 : BitVec 32 := Scalar.remsi v81 c4_i32_39
  let c0_i32_41 : BitVec 32 := 0#32
  let c0_i32_42 : BitVec 32 := 0#32
  ![v88.toNat, 0, 0]
def k1_off16 (i : grid1.Coords) : Fin 3 → Nat :=
  let arg0 : BitVec 32 := BitVec.ofNat 32 (i 0).val
  let c6_i32_11 : BitVec 32 := 6#32
  let v24 : BitVec 32 := Scalar.muli arg0 c6_i32_11
  let arg1 : BitVec 32 := BitVec.ofNat 32 (i 1).val
  let v25 : BitVec 32 := Scalar.addi v24 arg1
  let c1_i32_33 : BitVec 32 := 1#32
  let v80 : BitVec 32 := Scalar.subi v25 c1_i32_33
  let c4_i32_34 : BitVec 32 := 4#32
  let v81 : BitVec 32 := Scalar.addi v80 c4_i32_34
  let c6_i32_36 : BitVec 32 := 6#32
  let v85 : BitVec 32 := Scalar.divsi v81 c6_i32_36
  let c6_i32_37 : BitVec 32 := 6#32
  let v86 : BitVec 32 := Scalar.remsi v81 c6_i32_37
  let c512_i32_38 : BitVec 32 := 512#32
  let v87 : BitVec 32 := Scalar.muli v86 c512_i32_38
  let c0_i32_43 : BitVec 32 := 0#32
  ![v85.toNat, v87.toNat, 0]
def k1_cond7 (i : grid1.Coords) : BitVec 1 :=
  let arg1 : BitVec 32 := BitVec.ofNat 32 (i 1).val
  let c6_i32_5 : BitVec 32 := 6#32
  let v11 : BitVec 1 := Scalar.cmpi .sge arg1 c6_i32_5
  let v12 : BitVec 32 := Scalar.extui v11
  let c0_i32_6 : BitVec 32 := 0#32
  let v13 : BitVec 1 := Scalar.cmpi .ne v12 c0_i32_6
  v13

def k1_off17 (i : grid1.Coords) : Fin 2 → Nat :=
  let arg1 : BitVec 32 := BitVec.ofNat 32 (i 1).val
  let c6_i32_11 : BitVec 32 := 6#32
  let v24 : BitVec 32 := Scalar.subi arg1 c6_i32_11
  let c512_i32 : BitVec 32 := 512#32
  let v25 : BitVec 32 := Scalar.muli v24 c512_i32
  let v27 : Index := Scalar.indexCast v25
  let c0_13 : Index := 0#32
  ![v27.toNat, 0]
def k1_off18 (i : grid1.Coords) : Fin 2 → Nat :=
  let c0_23 : Index := 0#32
  let arg1 : BitVec 32 := BitVec.ofNat 32 (i 1).val
  let c6_i32_11 : BitVec 32 := 6#32
  let v24 : BitVec 32 := Scalar.subi arg1 c6_i32_11
  let c512_i32 : BitVec 32 := 512#32
  let v25 : BitVec 32 := Scalar.muli v24 c512_i32
  let v62 : Index := Scalar.indexCast v25
  ![0, v62.toNat]
-- ==== ReferenceIdeal.lean ====
abbrev S256x768 : Shape := ⟨2, ![256, 768]⟩
abbrev S19x3072x3072 : Shape := ⟨3, ![19, 3072, 3072]⟩
abbrev S768x3072 : Shape := ⟨2, ![768, 3072]⟩
abbrev S20x768x768 : Shape := ⟨3, ![20, 768, 768]⟩
abbrev S768x768 : Shape := ⟨2, ![768, 768]⟩
abbrev S3072x768 : Shape := ⟨2, ![3072, 768]⟩
abbrev S3072x3072 : Shape := ⟨2, ![3072, 3072]⟩
abbrev S_ : Shape := ⟨0, ![]⟩
abbrev S256x3072 : Shape := ⟨2, ![256, 3072]⟩
abbrev S19x768x768 : Shape := ⟨3, ![19, 768, 768]⟩
abbrev S1x3072x3072 : Shape := ⟨3, ![1, 3072, 3072]⟩
abbrev S1x768x768 : Shape := ⟨3, ![1, 768, 768]⟩

abbrev nBuf : Space → Nat
  | .hbm => 185
  | .vmem => 0
  | .smem => 0
  | _ => 0

abbrev hbmTy0_0 (i : Nat) : BufTy := match i % 128 with
  | 0 => ⟨S256x768, .f32⟩
  | 1 => ⟨S19x3072x3072, .f32⟩
  | 2 => ⟨S768x3072, .f32⟩
  | 3 => ⟨S20x768x768, .f32⟩
  | 4 => ⟨S768x3072, .f32⟩
  | 5 => ⟨S768x768, .f32⟩
  | 6 => ⟨S3072x768, .f32⟩
  | 7 => ⟨S3072x3072, .f32⟩
  | 8 => ⟨S_, .f32⟩
  | 9 => ⟨S256x768, .f32⟩
  | 10 => ⟨S256x768, .f32⟩
  | 11 => ⟨S256x768, .f32⟩
  | 12 => ⟨S_, .f32⟩
  | 13 => ⟨S256x768, .f32⟩
  | 14 => ⟨S256x768, .i1⟩
  | 15 => ⟨S_, .f32⟩
  | 16 => ⟨S_, .f32⟩
  | 17 => ⟨S256x768, .f32⟩
  | 18 => ⟨S256x768, .f32⟩
  | 19 => ⟨S256x768, .f32⟩
  | 20 => ⟨S256x768, .f32⟩
  | 21 => ⟨S768x3072, .f32⟩
  | 22 => ⟨S256x3072, .f32⟩
  | 23 => ⟨S_, .f32⟩
  | 24 => ⟨S256x768, .f32⟩
  | 25 => ⟨S256x768, .i1⟩
  | 26 => ⟨S256x768, .f32⟩
  | 27 => ⟨S768x3072, .f32⟩
  | 28 => ⟨S256x3072, .f32⟩
  | 29 => ⟨S256x768, .f32⟩
  | 30 => ⟨S768x3072, .f32⟩
  | 31 => ⟨S256x3072, .f32⟩
  | 32 => ⟨S256x3072, .f32⟩
  | 33 => ⟨S_, .f32⟩
  | 34 => ⟨S_, .f32⟩
  | 35 => ⟨S256x3072, .f32⟩
  | 36 => ⟨S256x3072, .f32⟩
  | 37 => ⟨S_, .f32⟩
  | 38 => ⟨S256x3072, .f32⟩
  | 39 => ⟨S256x3072, .i1⟩
  | 40 => ⟨S_, .f32⟩
  | 41 => ⟨S256x3072, .f32⟩
  | 42 => ⟨S256x3072, .i1⟩
  | 43 => ⟨S_, .f32⟩
  | 44 => ⟨S_, .i1⟩
  | 45 => ⟨S256x3072, .i1⟩
  | 46 => ⟨S256x3072, .i1⟩
  | 47 => ⟨S256x3072, .i1⟩
  | 48 => ⟨S256x3072, .f32⟩
  | 49 => ⟨S256x3072, .f32⟩
  | 50 => ⟨S256x3072, .f32⟩
  | 51 => ⟨S_, .f32⟩
  | 52 => ⟨S256x3072, .f32⟩
  | 53 => ⟨S256x3072, .f32⟩
  | 54 => ⟨S_, .f32⟩
  | 55 => ⟨S256x3072, .f32⟩
  | 56 => ⟨S256x3072, .f32⟩
  | 57 => ⟨S256x3072, .f32⟩
  | 58 => ⟨S_, .f32⟩
  | 59 => ⟨S256x3072, .f32⟩
  | 60 => ⟨S256x3072, .i1⟩
  | 61 => ⟨S_, .f32⟩
  | 62 => ⟨S256x3072, .f32⟩
  | 63 => ⟨S256x3072, .f32⟩
  | 64 => ⟨S19x768x768, .f32⟩
  | 65 => ⟨S_, .i32⟩
  | 66 => ⟨S19x3072x3072, .f32⟩
  | 67 => ⟨S19x768x768, .f32⟩
  | 68 => ⟨S256x768, .f32⟩
  | 69 => ⟨S768x3072, .f32⟩
  | 70 => ⟨S3072x3072, .f32⟩
  | 71 => ⟨S_, .i32⟩
  | 72 => ⟨S256x3072, .f32⟩
  | 73 => ⟨S_, .i32⟩
  | 74 => ⟨S_, .i1⟩
  | 75 => ⟨S_, .i32⟩
  | 76 => ⟨S_, .i32⟩
  | 77 => ⟨S1x3072x3072, .f32⟩
  | 78 => ⟨S3072x3072, .f32⟩
  | 79 => ⟨S_, .i32⟩
  | 80 => ⟨S_, .i32⟩
  | 81 => ⟨S1x768x768, .f32⟩
  | 82 => ⟨S768x768, .f32⟩
  | 83 => ⟨S_, .f32⟩
  | 84 => ⟨S_, .f32⟩
  | 85 => ⟨S_, .f32⟩
  | 86 => ⟨S256x3072, .f32⟩
  | 87 => ⟨S256x3072, .f32⟩
  | 88 => ⟨S_, .f32⟩
  | 89 => ⟨S256x3072, .f32⟩
  | 90 => ⟨S256x3072, .f32⟩
  | 91 => ⟨S256x3072, .f32⟩
  | 92 => ⟨S_, .f32⟩
  | 93 => ⟨S256x3072, .f32⟩
  | 94 => ⟨S256x3072, .f32⟩
  | 95 => ⟨S3072x3072, .f32⟩
  | 96 => ⟨S256x3072, .f32⟩
  | 97 => ⟨S256x768, .f32⟩
  | 98 => ⟨S256x3072, .f32⟩
  | 99 => ⟨S256x3072, .f32⟩
  | 100 => ⟨S_, .f32⟩
  | 101 => ⟨S256x3072, .f32⟩
  | 102 => ⟨S256x3072, .f32⟩
  | 103 => ⟨S256x3072, .f32⟩
  | 104 => ⟨S_, .f32⟩
  | 105 => ⟨S256x3072, .f32⟩
  | 106 => ⟨S256x3072, .i1⟩
  | 107 => ⟨S_, .f32⟩
  | 108 => ⟨S_, .f32⟩
  | 109 => ⟨S256x3072, .f32⟩
  | 110 => ⟨S256x3072, .f32⟩
  | 111 => ⟨S256x3072, .f32⟩
  | 112 => ⟨S256x3072, .f32⟩
  | 113 => ⟨S3072x3072, .f32⟩
  | 114 => ⟨S256x3072, .f32⟩
  | 115 => ⟨S_, .f32⟩
  | 116 => ⟨S256x3072, .f32⟩
  | 117 => ⟨S256x3072, .i1⟩
  | 118 => ⟨S256x3072, .f32⟩
  | 119 => ⟨S3072x3072, .f32⟩
  | 120 => ⟨S256x3072, .f32⟩
  | 121 => ⟨S256x3072, .f32⟩
  | 122 => ⟨S3072x3072, .f32⟩
  | 123 => ⟨S256x3072, .f32⟩
  | 124 => ⟨S256x3072, .f32⟩
  | 125 => ⟨S_, .f32⟩
  | 126 => ⟨S_, .f32⟩
  | 127 => ⟨S256x3072, .f32⟩
  | _ => ⟨S256x768, .f32⟩

abbrev hbmTy0_1 (i : Nat) : BufTy := match i % 128 with
  | 0 => ⟨S256x3072, .f32⟩
  | 1 => ⟨S_, .f32⟩
  | 2 => ⟨S256x3072, .f32⟩
  | 3 => ⟨S256x3072, .i1⟩
  | 4 => ⟨S_, .f32⟩
  | 5 => ⟨S256x3072, .f32⟩
  | 6 => ⟨S256x3072, .i1⟩
  | 7 => ⟨S_, .f32⟩
  | 8 => ⟨S_, .i1⟩
  | 9 => ⟨S256x3072, .i1⟩
  | 10 => ⟨S256x3072, .i1⟩
  | 11 => ⟨S256x3072, .i1⟩
  | 12 => ⟨S256x3072, .f32⟩
  | 13 => ⟨S256x3072, .f32⟩
  | 14 => ⟨S256x3072, .f32⟩
  | 15 => ⟨S_, .f32⟩
  | 16 => ⟨S256x3072, .f32⟩
  | 17 => ⟨S256x3072, .f32⟩
  | 18 => ⟨S_, .f32⟩
  | 19 => ⟨S256x3072, .f32⟩
  | 20 => ⟨S256x3072, .f32⟩
  | 21 => ⟨S256x3072, .f32⟩
  | 22 => ⟨S_, .f32⟩
  | 23 => ⟨S256x3072, .f32⟩
  | 24 => ⟨S256x3072, .i1⟩
  | 25 => ⟨S_, .f32⟩
  | 26 => ⟨S256x3072, .f32⟩
  | 27 => ⟨S256x3072, .f32⟩
  | 28 => ⟨S_, .i32⟩
  | 29 => ⟨S_, .i32⟩
  | 30 => ⟨S_, .f32⟩
  | 31 => ⟨S_, .f32⟩
  | 32 => ⟨S_, .f32⟩
  | 33 => ⟨S256x3072, .f32⟩
  | 34 => ⟨S256x3072, .f32⟩
  | 35 => ⟨S_, .f32⟩
  | 36 => ⟨S256x3072, .f32⟩
  | 37 => ⟨S256x3072, .f32⟩
  | 38 => ⟨S256x3072, .f32⟩
  | 39 => ⟨S_, .f32⟩
  | 40 => ⟨S256x3072, .f32⟩
  | 41 => ⟨S256x3072, .f32⟩
  | 42 => ⟨S3072x768, .f32⟩
  | 43 => ⟨S256x768, .f32⟩
  | 44 => ⟨S1x768x768, .f32⟩
  | 45 => ⟨S768x768, .f32⟩
  | 46 => ⟨S256x768, .f32⟩
  | 47 => ⟨S256x768, .f32⟩
  | 48 => ⟨S256x768, .f32⟩
  | 49 => ⟨S256x768, .f32⟩
  | 50 => ⟨S256x768, .f32⟩
  | 51 => ⟨S_, .f32⟩
  | 52 => ⟨S256x768, .f32⟩
  | 53 => ⟨S256x768, .f32⟩
  | 54 => ⟨S_, .f32⟩
  | 55 => ⟨S256x768, .f32⟩
  | 56 => ⟨S256x768, .f32⟩
  | _ => ⟨S256x768, .f32⟩

abbrev hbmTy (i : Nat) : BufTy := match i / 128 with
  | 0 => hbmTy0_0 i
  | 1 => hbmTy0_1 i
  | _ => ⟨S256x768, .f32⟩

abbrev bufTy : (tb : Table) → Fin (tcTables nBuf tb) → BufTy
  | .hbm, ⟨i, _⟩ => hbmTy i
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_cst : Ref sig .tc := ⟨.hbm, 37, rfl⟩
abbrev main_call1_v3 : Ref sig .tc := ⟨.hbm, 38, rfl⟩
abbrev main_call1_v4 : Ref sig .tc := ⟨.hbm, 39, rfl⟩
abbrev main_call1_cst_0 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c : Ref sig .tc := ⟨.hbm, 65, rfl⟩
abbrev main_v30_0 : Ref sig .tc := ⟨.hbm, 66, rfl⟩
abbrev main_v30_1 : Ref sig .tc := ⟨.hbm, 67, rfl⟩
abbrev main_v30_2 : Ref sig .tc := ⟨.hbm, 68, rfl⟩
abbrev main_v30_3 : Ref sig .tc := ⟨.hbm, 69, rfl⟩
abbrev main_v30_4 : Ref sig .tc := ⟨.hbm, 70, rfl⟩
abbrev main_v30_5 : Ref sig .tc := ⟨.hbm, 71, rfl⟩
abbrev main_v30_6 : Ref sig .tc := ⟨.hbm, 72, rfl⟩
abbrev main_while0c_c_19 : Ref sig .tc := ⟨.hbm, 73, rfl⟩
abbrev main_while0c_v48 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_v0 : Ref sig .tc := ⟨.hbm, 77, rfl⟩
abbrev main_while0b_v48 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_v0 : Ref sig .tc := ⟨.hbm, 81, rfl⟩
abbrev main_while0b_v49 : Ref sig .tc := ⟨.hbm, 82, rfl⟩
abbrev main_while0b_cst_19 : Ref sig .tc := ⟨.hbm, 83, rfl⟩
abbrev main_while0b_cst_20 : Ref sig .tc := ⟨.hbm, 84, rfl⟩
abbrev main_while0b_call5_v0 : Ref sig .tc := ⟨.hbm, 85, rfl⟩
abbrev main_while0b_call5_v1 : Ref sig .tc := ⟨.hbm, 86, rfl⟩
abbrev main_while0b_call5_v2 : Ref sig .tc := ⟨.hbm, 87, rfl⟩
abbrev main_while0b_call5_v3 : Ref sig .tc := ⟨.hbm, 88, rfl⟩
abbrev main_while0b_call5_v4 : Ref sig .tc := ⟨.hbm, 89, rfl⟩
abbrev main_while0b_v50 : Ref sig .tc := ⟨.hbm, 90, rfl⟩
abbrev main_while0b_v51 : Ref sig .tc := ⟨.hbm, 91, rfl⟩
abbrev main_while0b_cst_21 : Ref sig .tc := ⟨.hbm, 92, rfl⟩
abbrev main_while0b_v52 : Ref sig .tc := ⟨.hbm, 93, rfl⟩
abbrev main_while0b_v53 : Ref sig .tc := ⟨.hbm, 94, rfl⟩
abbrev main_while0b_v54 : Ref sig .tc := ⟨.hbm, 95, rfl⟩
abbrev main_while0b_v55 : Ref sig .tc := ⟨.hbm, 96, rfl⟩
abbrev main_while0b_v56 : Ref sig .tc := ⟨.hbm, 97, rfl⟩
abbrev main_while0b_v57 : Ref sig .tc := ⟨.hbm, 98, rfl⟩
abbrev main_while0b_v58 : Ref sig .tc := ⟨.hbm, 99, rfl⟩
abbrev main_while0b_cst_22 : Ref sig .tc := ⟨.hbm, 100, rfl⟩
abbrev main_while0b_v59 : Ref sig .tc := ⟨.hbm, 101, rfl⟩
abbrev main_while0b_v60 : Ref sig .tc := ⟨.hbm, 102, rfl⟩
abbrev main_while0b_v61 : Ref sig .tc := ⟨.hbm, 103, rfl⟩
abbrev main_while0b_cst_23 : Ref sig .tc := ⟨.hbm, 104, rfl⟩
abbrev main_while0b_v62 : Ref sig .tc := ⟨.hbm, 105, rfl⟩
abbrev main_while0b_v63 : Ref sig .tc := ⟨.hbm, 106, rfl⟩
abbrev main_while0b_cst_24 : Ref sig .tc := ⟨.hbm, 107, rfl⟩
abbrev main_while0b_call6_v0 : Ref sig .tc := ⟨.hbm, 108, rfl⟩
abbrev main_while0b_call6_v1 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_cst_25 : Ref sig .tc := ⟨.hbm, 115, rfl⟩
abbrev main_while0b_v69 : Ref sig .tc := ⟨.hbm, 116, rfl⟩
abbrev main_while0b_v70 : Ref sig .tc := ⟨.hbm, 117, rfl⟩
abbrev main_while0b_v71 : Ref sig .tc := ⟨.hbm, 118, rfl⟩
abbrev main_while0b_v72 : Ref sig .tc := ⟨.hbm, 119, rfl⟩
abbrev main_while0b_v73 : Ref sig .tc := ⟨.hbm, 120, rfl⟩
abbrev main_while0b_v74 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_cst_26 : Ref sig .tc := ⟨.hbm, 125, rfl⟩
abbrev main_while0b_call7_v0 : Ref sig .tc := ⟨.hbm, 126, rfl⟩
abbrev main_while0b_call7_v1 : Ref sig .tc := ⟨.hbm, 127, rfl⟩
abbrev main_while0b_call7_v2 : Ref sig .tc := ⟨.hbm, 128, rfl⟩
abbrev main_while0b_call7_cst : Ref sig .tc := ⟨.hbm, 129, rfl⟩
abbrev main_while0b_call7_v3 : Ref sig .tc := ⟨.hbm, 130, rfl⟩
abbrev main_while0b_call7_v4 : Ref sig .tc := ⟨.hbm, 131, rfl⟩
abbrev main_while0b_call7_cst_0 : Ref sig .tc := ⟨.hbm, 132, rfl⟩
abbrev main_while0b_call7_v5 : Ref sig .tc := ⟨.hbm, 133, rfl⟩
abbrev main_while0b_call7_v6 : Ref sig .tc := ⟨.hbm, 134, rfl⟩
abbrev main_while0b_call7_cst_1 : Ref sig .tc := ⟨.hbm, 135, rfl⟩
abbrev main_while0b_call7_v7 : Ref sig .tc := ⟨.hbm, 136, rfl⟩
abbrev main_while0b_call7_v8 : Ref sig .tc := ⟨.hbm, 137, rfl⟩
abbrev main_while0b_call7_v9 : Ref sig .tc := ⟨.hbm, 138, rfl⟩
abbrev main_while0b_call7_v10 : Ref sig .tc := ⟨.hbm, 139, rfl⟩
abbrev main_while0b_call7_v11 : Ref sig .tc := ⟨.hbm, 140, rfl⟩
abbrev main_while0b_call7_v12 : Ref sig .tc := ⟨.hbm, 141, rfl⟩
abbrev main_while0b_v78 : Ref sig .tc := ⟨.hbm, 142, rfl⟩
abbrev main_while0b_cst_27 : Ref sig .tc := ⟨.hbm, 143, rfl⟩
abbrev main_while0b_v79 : Ref sig .tc := ⟨.hbm, 144, rfl⟩
abbrev main_while0b_v80 : Ref sig .tc := ⟨.hbm, 145, rfl⟩
abbrev main_while0b_cst_28 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_cst_29 : Ref sig .tc := ⟨.hbm, 150, rfl⟩
abbrev main_while0b_v84 : Ref sig .tc := ⟨.hbm, 151, rfl⟩
abbrev main_while0b_v85 : Ref sig .tc := ⟨.hbm, 152, rfl⟩
abbrev main_while0b_cst_30 : Ref sig .tc := ⟨.hbm, 153, rfl⟩
abbrev main_while0b_v86 : Ref sig .tc := ⟨.hbm, 154, rfl⟩
abbrev main_while0b_v87 : Ref sig .tc := ⟨.hbm, 155, rfl⟩
abbrev main_while0b_c_31 : Ref sig .tc := ⟨.hbm, 156, rfl⟩
abbrev main_while0b_v88 : Ref sig .tc := ⟨.hbm, 157, rfl⟩
abbrev main_cst_8 : Ref sig .tc := ⟨.hbm, 158, rfl⟩
abbrev main_cst_9 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_call9_v3 : Ref sig .tc := ⟨.hbm, 163, rfl⟩
abbrev main_call9_v4 : Ref sig .tc := ⟨.hbm, 164, rfl⟩
abbrev main_v31 : Ref sig .tc := ⟨.hbm, 165, rfl⟩
abbrev main_v32 : Ref sig .tc := ⟨.hbm, 166, rfl⟩
abbrev main_cst_10 : Ref sig .tc := ⟨.hbm, 167, rfl⟩
abbrev main_v33 : Ref sig .tc := ⟨.hbm, 168, rfl⟩
abbrev main_v34 : Ref sig .tc := ⟨.hbm, 169, rfl⟩
abbrev main_v35 : Ref sig .tc := ⟨.hbm, 170, rfl⟩
abbrev main_v36 : Ref sig .tc := ⟨.hbm, 171, rfl⟩
abbrev main_v37 : Ref sig .tc := ⟨.hbm, 172, rfl⟩
abbrev main_v38 : Ref sig .tc := ⟨.hbm, 173, rfl⟩
abbrev main_v39 : Ref sig .tc := ⟨.hbm, 174, rfl⟩
abbrev main_v40 : Ref sig .tc := ⟨.hbm, 175, rfl⟩
abbrev main_v41 : Ref sig .tc := ⟨.hbm, 176, rfl⟩
abbrev main_v42 : Ref sig .tc := ⟨.hbm, 177, rfl⟩
abbrev main_v43 : Ref sig .tc := ⟨.hbm, 178, rfl⟩
abbrev main_cst_11 : Ref sig .tc := ⟨.hbm, 179, rfl⟩
abbrev main_v44 : Ref sig .tc := ⟨.hbm, 180, rfl⟩
abbrev main_v45 : Ref sig .tc := ⟨.hbm, 181, rfl⟩
abbrev main_cst_12 : Ref sig .tc := ⟨.hbm, 182, rfl⟩
abbrev main_v46 : Ref sig .tc := ⟨.hbm, 183, rfl⟩
abbrev main_v47 : Ref sig .tc := ⟨.hbm, 184, rfl⟩

abbrev nD : Nat := 1
abbrev τ : Topo := Topo.v7x

variable {F : FTy → Type} [FloatOps F]

abbrev main_while0_count : Scf.Loop 32 := ⟨0#32, 19#32, 1#32⟩
-- ==== Proof.Base.lean ====
/-
  The vocabulary of the kernel's proof: the resource algebra, buffers held whole, a transfer started and waited for,
  and what a load or a store of a rectangle of a matrix is, element by element.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Transfers
public import Idealize.ShloMosaic.Lib.ValueIdxCore

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- The resource algebra: the rounds of the pipeline's staging cells, beside the counters of the transfers. -/
abbrev UU (nD : Nat) (τ : Topo) : Type := UR sig nD τ × Counters

local notation "𝕄" => MT nD τ sig Unit (Elt F) ℕ (UU nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole on core `c`, at `f`. -/
abbrev pt (c : Dev nD) {sp : Space} {S : Shape} {e : EltTy} (M : Memref sig .tc sp S e) (f : Bf (F := F) c M) : sProp 𝕄 :=
  M.view.loc (c : Thread nD τ) ↦{fullShare} f

/-- What a program of the kernel does on core `c`, as a precondition for `Q`. -/
abbrev runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The core's record of waits, owing nothing. -/
abbrev idle (c : Dev nD) : sProp 𝕄 := iprop(∃ W, owes (c : Thread nD τ) (0 : CellTallies nD τ sig Unit) W)

/-- A counter at zero. -/
abbrev quiet (c : Dev nD) (s : DmaSem sig) : sProp 𝕄 := semVal ((c : Thread nD τ), SemLoc.dma s) 0

/-- A transfer of `N` credits in flight on cell `s`, delivering `D`. -/
abbrev flying (c : Dev nD) (s : DmaSem sig) (N : ℕ) (D : sProp 𝕄) : sProp 𝕄 :=
  Flight (countersEmb) (c : Thread nD τ) (SemLoc.dma s) () N D

/-- What a flight delivers may be joined by anything held when it is under way. -/
theorem flying_frame (c : Dev nD) (s : DmaSem sig) (N : ℕ) (D P : sProp 𝕄) :
    iprop(flying c s N D ∗ P) ⊢ flying c s N iprop(D ∗ P) := by
  unfold flying Flight
  iintro ⟨⟨⟨%R, HR, %hcap, %hpeek⟩, Hcred⟩, HP⟩
  isplitl [HR HP]
  · iexists iprop(R ∗ P)
    isplitl [HR HP]; · (isplitl [HR] <;> iassumption)
    isplit
    · ipureintro
      intro K
      refine BIBase.Entails.trans ?_ (hcap K)
      iintro ⟨⟨HR, HP⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HP⟩, HK⟩
      isplitl [HR]; · iexact HR
      iintro HR
      iapply HK
      isplitl [HR] <;> iassumption
  · iexact Hcred

/-- Two programs in sequence. -/
theorem runs_bind (c : Dev nD) {α β : Type} (p : Prog (TpuEff nD τ sig (Elt F) Λ₀ .tc) α)
    (k : α → Prog (TpuEff nD τ sig (Elt F) Λ₀ .tc) β) (Q : β → sProp 𝕄) :
    runs c p (fun a => runs c (k a) Q) ⊢ runs c (p >>= k) Q :=
  Entails.of_eq (wp_bind _ _ _ p k Q).symm

/-- A value returned. -/
theorem runs_pure (c : Dev nD) {α : Type} (a : α) (Q : α → sProp 𝕄) : Q a ⊢ runs c (pure a) Q := by
  unfold runs
  rw [show (pure a : Prog (TpuEff nD τ sig (Elt F) Λ₀ .tc) α) = .ret a from rfl, wp_ret]
  iintro H; imodintro; iexact H

/-- A transfer started: the source held at any share, the elements `Sd` around the destination's held whole, the
    cell quiet; what it delivers is any consequence `D` of the destination written and the source handed back. -/
theorem runs_start (c : Dev nD) {sp sp' : Space} {s : Shape} {e : EltTy} (src : Memref sig .tc sp s e) (dst : Memref sig .tc sp' s e)
    (sm : DmaSem sig) {hsrc : src.view.WordExact} {hdst : dst.view.WordExact}
    {hsem : DmaTarget.Typed (nD := nD) (τ := τ) sp (SemLoc.dma sm) (DmaTarget.here (nD := nD) (τ := τ) (sig := sig) (p := Proc.tc) dst)} {q : PosShare TreeShare}
    {fs : Bf (F := F) c src} {fd : Bf (F := F) c dst} (Sd : Finset (Idx (dst.view.loc (c : Thread nD τ)))) (hSd : dst.view.set ⊆ Sd)
    (h0 : 0 < s.numel) (D : sProp 𝕄) (Q : PUnit → sProp 𝕄)
    (hD : iprop((dst.view.loc (c : Thread nD τ) ↦[Sd]{fullShare} dst.view.write (Elt F) fd (src.view.read (Elt F) fs) Finset.univ)
      ∗ (src.view.loc (c : Thread nD τ) ↦{q} fs)) ⊢ D) :
    iprop((src.view.loc (c : Thread nD τ) ↦{q} fs) ∗ (dst.view.loc (c : Thread nD τ) ↦[Sd]{fullShare} fd) ∗ quiet c sm
      ∗ (flying c sm dst.view.dmaCredit D -∗ Q ⟨⟩))
    ⊢ runs c (Prog.lift (.enqueueDma src (.here dst) (.dma sm) hsrc hdst hsem)) Q := by
  iintro ⟨Hs, Hd, Hv, HQ⟩
  ihave Hs := (pointsTo_split_subset (Finset.subset_univ src.view.set)).1 $$ Hs
  icases Hs with ⟨Hs, Hr⟩
  iapply (wp_dmaLocal (EC := countersEmb) (𝒱 := Variants.none) (c := (c : Thread nD τ)) (bd := none) (ι := ()) (N := dst.view.dmaCredit) (hN := rfl) (hN0 := dst.view.dmaCredit_pos h0) (hSd := hSd)) $$ [Hs Hd Hv]
  · isplitl [Hs]; · iexact Hs
    isplitl [Hd] <;> iassumption
  iintro Hf
  iapply (runs_pure c PUnit.unit Q)
  iapply HQ
  ihave Hf := (flying_frame c sm _ _ _) $$ [Hf Hr]
  · isplitl [Hf]; · iexact Hf
    iexact Hr
  iapply (Flight_mono (EC := countersEmb) ?_) $$ Hf
  refine BIBase.Entails.trans ?_ hD
  iintro ⟨⟨Hd, Hs⟩, Hr⟩
  isplitl [Hd]; · iexact Hd
  iapply (pointsTo_split_subset (Finset.subset_univ src.view.set)).2
  isplitl [Hs] <;> iassumption

/-- A transfer waited for: what it delivers comes back, and the cell is quiet. -/
theorem runs_wait (c : Dev nD) {sp sp' : Space} {s s' : Shape} {e e' : EltTy} (src : Memref sig .tc sp s e) (dst : Memref sig .tc sp' s' e')
    (sm : DmaSem sig) {hsrc : src.view.WordExact} {hdst : dst.view.WordExact} (N : ℕ) (hN : dst.view.dmaCredit = N)
    (D : sProp 𝕄) (Q : PUnit → sProp 𝕄) :
    iprop(flying c sm N D ∗ idle c ∗ (iprop(D ∗ quiet c sm ∗ idle c) -∗ Q ⟨⟩))
    ⊢ runs c (Prog.lift (.waitDma2 sm src dst hsrc hdst)) Q := by
  iintro ⟨Hf, ⟨%W, HO⟩, HQ⟩
  iapply (wp_waitLocal (EC := countersEmb) (𝒱 := Variants.none) (c := (c : Thread nD τ)) (bd := none) (ι := ()) (hN := hN)) $$ [Hf HO]
  · isplitl [Hf] <;> iassumption
  iintro ⟨HD, Hv, HO⟩
  iapply (runs_pure c PUnit.unit Q)
  iapply HQ
  isplitl [HD]; · iexact HD
  isplitl [Hv]; · iexact Hv
  iexists _; iexact HO

/-- A rectangle loaded from elements `S` held at any share. -/
theorem runs_load (c : Dev nD) {cs : CoreSpace} {s : Shape} {e : EltTy} (m : Memref sig .tc cs s e) (r : Rect s)
    {hl : m.view.LoadsAt r.toLoadRect} {S : Finset (Idx ((m.access r).loc (c : Thread nD τ)))} {q : PosShare TreeShare}
    {f : Buf (Elt F) ((m.access r).loc (c : Thread nD τ))} (hS : (m.access r).set ⊆ S) (Q : (r.shape.Idx → Elt F e) → sProp 𝕄) :
    iprop(((m.access r).loc (c : Thread nD τ) ↦[S]{q} f)
      ∗ (((m.access r).loc (c : Thread nD τ) ↦[S]{q} f) -∗ Q ((m.access r).read (Elt F) f)))
    ⊢ runs c (Prog.lift (.load m r.toLoadRect hl)) Q := by
  iintro ⟨H, HQ⟩
  iapply (wp_load_rect (𝒱 := Variants.none) (c := (c : Thread nD τ)) (bd := none) (E := Set.univ) (hS := hS)) $$ H
  iintro H
  iapply (runs_pure c _ Q)
  iapply HQ $$ H

/-- A rectangle stored whole into a buffer held whole. -/
theorem runs_store (c : Dev nD) {cs : CoreSpace} {s : Shape} {e : EltTy} (m : Memref sig .tc cs s e) (r : Rect s)
    (w : r.shape.Idx → Elt F e) {hx : (m.access r).Stores Finset.univ}
    {hm : (Finset.univ : Finset r.shape.Idx) = Finset.univ ∨ ∀ a, r.stride a = 1}
    {f : Buf (Elt F) ((m.access r).loc (c : Thread nD τ))} (Q : PUnit → sProp 𝕄) :
    iprop(((m.access r).loc (c : Thread nD τ) ↦{fullShare} f)
      ∗ (((m.access r).loc (c : Thread nD τ) ↦{fullShare} (m.access r).write (Elt F) f w Finset.univ) -∗ Q ⟨⟩))
    ⊢ runs c (Prog.lift (.store m r w Finset.univ hx hm)) Q := by
  iintro ⟨H, HQ⟩
  iapply (wp_store (𝒱 := Variants.none) (c := (c : Thread nD τ)) (bd := none) (E := Set.univ) (hS := Finset.subset_univ _)) $$ H
  iintro H
  iapply (runs_pure c _ Q)
  iapply HQ $$ H

/-! ## Rectangles of a matrix held whole -/

/-- A rectangle of a matrix read at an index: the matrix at the index moved by the rectangle's corner. -/
theorem read_rect2 {sp : Space} {n0 n1 s0 s1 : ℕ} {e : EltTy} (m : Memref sig .tc sp ⟨2, ![n0, n1]⟩ e) (f : m.view.ty.Contents (Elt F))
    (off : Fin 2 → ℕ) (inb : ∀ a, off a + (⟨2, ![s0, s1]⟩ : Shape).size a ≤ (⟨2, ![n0, n1]⟩ : Shape).size a)
    (x : (⟨2, ![s0, s1]⟩ : Shape).Idx) :
    (m.access (Rect.unit off (⟨2, ![s0, s1]⟩ : Shape).size inb)).read (Elt F) f x
      = m.view.read (Elt F) f (ix2 ⟨off 0 + (x 0).val, by have := inb 0; have := (x 0).isLt; simp at *; omega⟩
          ⟨off 1 + (x 1).val, by have := inb 1; have := (x 1).isLt; simp at *; omega⟩) := by
  rw [View.read_apply, View.read_apply]
  congr 2
  show m.view.emb _ = m.view.emb _
  congr 1
  funext a
  match a with
  | ⟨0, _⟩ => exact Fin.ext (by simp [Rect.emb, Rect.unit])
  | ⟨1, _⟩ => exact Fin.ext (by simp [Rect.emb, Rect.unit])

/-- A matrix after a store of a rectangle, at an index inside: what was stored there. -/
theorem write_rect2_in {sp : Space} {n0 n1 s0 s1 : ℕ} {e : EltTy} (m : Memref sig .tc sp ⟨2, ![n0, n1]⟩ e) (f : m.view.ty.Contents (Elt F))
    (off : Fin 2 → ℕ) (inb : ∀ a, off a + (⟨2, ![s0, s1]⟩ : Shape).size a ≤ (⟨2, ![n0, n1]⟩ : Shape).size a)
    (w : (⟨2, ![s0, s1]⟩ : Shape).Idx → Elt F e) (y : (⟨2, ![n0, n1]⟩ : Shape).Idx) (x : (⟨2, ![s0, s1]⟩ : Shape).Idx)
    (h0 : (y 0).val = off 0 + (x 0).val) (h1 : (y 1).val = off 1 + (x 1).val) :
    m.view.read (Elt F) ((m.access (Rect.unit off (⟨2, ![s0, s1]⟩ : Shape).size inb)).write (Elt F) f w Finset.univ) y = w x := by
  have hy : y = (Rect.unit (s := ⟨2, ![n0, n1]⟩) off (⟨2, ![s0, s1]⟩ : Shape).size inb).emb x := by
    funext a
    match a with
    | ⟨0, _⟩ => exact Fin.ext (by simpa [Rect.emb, Rect.unit] using h0)
    | ⟨1, _⟩ => exact Fin.ext (by simpa [Rect.emb, Rect.unit] using h1)
  rw [hy]
  exact View.read_slice_write_emb _ _ _ (Finset.mem_univ _)

/-- The same at an index outside, by its row or by its column: as before. -/
theorem write_rect2_out {sp : Space} {n0 n1 s0 s1 : ℕ} {e : EltTy} (m : Memref sig .tc sp ⟨2, ![n0, n1]⟩ e) (f : m.view.ty.Contents (Elt F))
    (off : Fin 2 → ℕ) (inb : ∀ a, off a + (⟨2, ![s0, s1]⟩ : Shape).size a ≤ (⟨2, ![n0, n1]⟩ : Shape).size a)
    (w : (⟨2, ![s0, s1]⟩ : Shape).Idx → Elt F e) (y : (⟨2, ![n0, n1]⟩ : Shape).Idx)
    (h : (y 0).val < off 0 ∨ off 0 + s0 ≤ (y 0).val ∨ (y 1).val < off 1 ∨ off 1 + s1 ≤ (y 1).val) :
    m.view.read (Elt F) ((m.access (Rect.unit off (⟨2, ![s0, s1]⟩ : Shape).size inb)).write (Elt F) f w Finset.univ) y
      = m.view.read (Elt F) f y := by
  refine View.read_slice_write_of_not_mem _ _ _ _ fun hm => ?_
  obtain ⟨x, -, hx⟩ := Finset.mem_map.mp hm
  have e0 : (y 0).val = off 0 + (x 0).val := by rw [← hx]; simp [Rect.emb, Rect.unit]
  have e1 : (y 1).val = off 1 + (x 1).val := by rw [← hx]; simp [Rect.emb, Rect.unit]
  have l0 : (x 0).val < s0 := (x 0).isLt
  have l1 : (x 1).val < s1 := (x 1).isLt
  omega

/-! ## The grid's conditions and offsets, in numbers -/

section Coords

/-- Point `(l, j)` of the grid: layer `l`, step `j`. -/
abbrev at' (l : Fin 19) (j : Fin 12) : grid1.Coords := ix2 l j

theorem cond1 : ∀ (l : Fin 19) (j : Fin 12), (k1_cond1 (at' l j) = 1#1 ↔ l.val = 0 ∧ j.val = 0) := by decide +kernel
theorem cond2 : ∀ (l : Fin 19) (j : Fin 12), (k1_cond2 (at' l j) = 1#1 ↔ l.val = 0) := by decide +kernel
theorem cond3 : ∀ (l : Fin 19) (j : Fin 12), l.val = 0 → (k1_cond3 (at' l j) = 1#1 ↔ j.val < 11) := by decide +kernel
theorem cond4 : ∀ (l : Fin 19) (j : Fin 12), (k1_cond4 (at' l j) = 1#1 ↔ j.val < 6) := by decide +kernel
theorem cond5 : ∀ (l : Fin 19) (j : Fin 12), j.val < 6 → (k1_cond5 (at' l j) = 1#1 ↔ 1 ≤ 6 * l.val + j.val) := by decide +kernel
theorem cond6 : ∀ (l : Fin 19) (j : Fin 12), j.val < 6 → (k1_cond6 (at' l j) = 1#1 ↔ 6 * l.val + j.val + 3 < 114) := by decide +kernel
theorem cond7 : ∀ (l : Fin 19) (j : Fin 12), (k1_cond7 (at' l j) = 1#1 ↔ 6 ≤ j.val) := by decide +kernel
theorem off4 : ∀ (l : Fin 19) (j : Fin 12), l.val = 0 → k1_off4 (at' l j) = ![256 * j.val, 0] := by decide +kernel
theorem off5 : ∀ (l : Fin 19) (j : Fin 12), l.val = 0 → k1_off5 (at' l j) = ![256 * j.val, 0] := by decide +kernel
theorem off6 : ∀ (l : Fin 19) (j : Fin 12), l.val = 0 → j.val < 11 → k1_off6 (at' l j) = ![256 * (j.val + 1), 0] := by decide +kernel
theorem off7 : ∀ (l : Fin 19) (j : Fin 12), j.val < 6 → k1_off7 (at' l j) = ![(6 * l.val + j.val) % 4] := by decide +kernel
theorem off8 : ∀ (l : Fin 19) (j : Fin 12), j.val < 6 → k1_off8 (at' l j) = ![(6 * l.val + j.val) % 4, 0, 0] := by decide +kernel
theorem off9 : ∀ (l : Fin 19) (j : Fin 12), j.val < 6 → k1_off9 (at' l j) = ![l.val, 512 * j.val, 0] := by decide +kernel
theorem off10 : ∀ (l : Fin 19) (j : Fin 12), j.val < 6 → k1_off10 (at' l j) = ![(6 * l.val + j.val) % 4, 0, 0] := by decide +kernel
theorem off11 : ∀ (l : Fin 19) (j : Fin 12), j.val < 6 → k1_off11 (at' l j) = ![0, 512 * j.val] := by decide +kernel
theorem off12 : ∀ (l : Fin 19) (j : Fin 12), j.val < 6 → k1_off12 (at' l j) = ![0, 512 * j.val] := by decide +kernel
theorem off13 : ∀ (l : Fin 19) (j : Fin 12), j.val < 6 → k1_off13 (at' l j) = ![256, 512 * j.val] := by decide +kernel
theorem off14 : ∀ (l : Fin 19) (j : Fin 12), j.val < 6 → k1_off14 (at' l j) = ![(6 * l.val + j.val + 3) % 4] := by decide +kernel
theorem off15 : ∀ (l : Fin 19) (j : Fin 12), j.val < 6 → k1_off15 (at' l j) = ![(6 * l.val + j.val + 3) % 4, 0, 0] := by decide +kernel
theorem off16 : ∀ (l : Fin 19) (j : Fin 12), j.val < 6 → 6 * l.val + j.val + 3 < 114 → k1_off16 (at' l j) = ![(6 * l.val + j.val + 3) / 6, 512 * ((6 * l.val + j.val + 3) % 6), 0] := by decide +kernel
theorem off17 : ∀ (l : Fin 19) (j : Fin 12), 6 ≤ j.val → k1_off17 (at' l j) = ![512 * (j.val - 6), 0] := by decide +kernel
theorem off18 : ∀ (l : Fin 19) (j : Fin 12), 6 ≤ j.val → k1_off18 (at' l j) = ![0, 512 * (j.val - 6)] := by decide +kernel

end Coords

end Cert.Proof

end
-- ==== Proof.Slots.lean ====
/-
  The ring of four weight slots: what a slot holds at rest and with a block of `W` in flight, a block's transfer started
  and waited for, a slot loaded.
-/
module

public import proofs.«01_k».proof.Proof.Base
public import Idealize.ShloMosaic.Lib.ValueLayout

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

/-- The slot of block `b`. -/
abbrev md (b : ℕ) : Fin 4 := ⟨b % 4, Nat.mod_lt _ (by decide)⟩

theorem inb_slot (s : Fin 4) : ∀ a, (![s.val, 0, 0] : Fin 3 → ℕ) a + S1x512x3072.size a ≤ S4x512x3072.size a := by
  revert s; decide

theorem inb_sem (s : Fin 4) : ∀ a, (![s.val] : Fin 1 → ℕ) a + S1.size a ≤ S4.size a := by
  revert s; decide

/-- Slot `s` of the weight buffer, as the matrix it is. -/
abbrev slotM (s : Fin 4) : Memref sig .tc .vmem S512x3072 .f32 :=
  ((Memref.whole cc1_scratch4).slice (Rect.unit (s := S4x512x3072) ![s.val, 0, 0] S1x512x3072.size (inb_slot s)) (fun _ => rfl)).squeeze
    S512x3072 squeezes_S1x512x3072_S512x3072

/-- The semaphore of slot `s`. -/
abbrev wsem (s : Fin 4) : DmaSem sig :=
  ((cc1_scratch9.slice (Rect.unit (s := S4) ![s.val] S1.size (inb_sem s))).squeeze S_ squeezes_S1_S_).sem

/-- Block `b` of the weights: rows `512 (b % 6)` to `512 (b % 6) + 511` of layer `b / 6`. -/
def blkV (w : S19x3072x3072.Idx → F .f32) (b : ℕ) : S512x3072.Idx → F .f32 := fun x =>
  w (ix3 (⟨b / 6 % 19, Nat.mod_lt _ (by decide)⟩ : Fin 19)
    (⟨512 * (b % 6) + (x 0).val, by have := idx2_lt0 x; omega⟩ : Fin 3072) (x 1))

/-- The first `n` rows of a slot's matrix, with a leading axis of one. -/
def rows3 {n : ℕ} (hn : n ≤ 512) (X : S512x3072.Idx → F .f32) : (⟨3, ![1, n, 3072]⟩ : Shape).Idx → F .f32 :=
  fun x => X (ix2 (Fin.castLE hn (x 1)) (x 2))

variable (c : Dev nD) (w : Bf (F := F) c (Memref.whole main_arg1))

/-- Slot `s` held whole at `X`. -/
abbrev slotHas (s : Fin 4) (X : S512x3072.Idx → F .f32) : sProp 𝕄 := owns (Val := Elt F) (c : Thread nD τ) (slotM s) fullShare X
/-- The share of `W` slot `s` reads with. -/
abbrev wTok (s : Fin 4) : sProp 𝕄 := (Memref.whole main_arg1).view.loc (c : Thread nD τ) ↦{shareTok fullShare 4 s} w
/-- Slot `s` at rest, holding anything. -/
abbrev restS (s : Fin 4) : sProp 𝕄 := iprop((∃ X, slotHas c s X) ∗ quiet c (wsem s) ∗ wTok c w s)
/-- Block `b` in flight to its slot. -/
abbrev flyS (b : ℕ) : sProp 𝕄 :=
  flying c (wsem (md b)) (slotM (md b)).view.dmaCredit iprop(slotHas c (md b) (blkV w b) ∗ wTok c w (md b))
/-- The slot of block `b`: in flight if there is such a block, else at rest. -/
def hold (b : ℕ) : sProp 𝕄 := if b < 114 then flyS c w b else restS c w (md b)

theorem hold_lt {b : ℕ} (h : b < 114) : hold c w b = flyS c w b := if_pos h
theorem hold_ge {b : ℕ} (h : 114 ≤ b) : hold c w b = restS c w (md b) := if_neg (by omega)

/-- A matrix of the slots, loaded with its leading axis, is the slot's. -/
theorem read_slot {n : ℕ} (s : Fin 4) (f : (Memref.whole cc1_scratch4).view.ty.Contents (Elt F)) (off : Fin 3 → ℕ)
    (inb : ∀ a, off a + (⟨3, ![1, n, 3072]⟩ : Shape).size a ≤ S4x512x3072.size a) (h : off = ![s.val, 0, 0]) (hn : n ≤ 512)
    (x : (⟨3, ![1, n, 3072]⟩ : Shape).Idx) :
    ((Memref.whole cc1_scratch4).access (Rect.unit (s := S4x512x3072) off (⟨3, ![1, n, 3072]⟩ : Shape).size inb)).read (Elt F) f x
      = (slotM s).view.read (Elt F) f (ix2 (Fin.castLE hn (x 1)) (x 2)) := by
  subst h
  obtain ⟨a, b, d, rfl⟩ : ∃ (a : Fin 1) (b : Fin n) (d : Fin 3072), x = ix3 a b d := ⟨x 0, x 1, x 2, eq_ix3 x⟩
  refine congrArg f ?_
  show (Rect.unit (s := S4x512x3072) ![s.val, 0, 0] (⟨3, ![1, n, 3072]⟩ : Shape).size inb).emb (ix3 a b d)
    = (Rect.unit (s := S4x512x3072) ![s.val, 0, 0] S1x512x3072.size (inb_slot s)).emb (Shape.reshapeEquiv _ (ix2 (Fin.castLE hn b) d))
  rw [reshapeEquiv_ix2_1ab]
  have h0 : a.val = 0 := by omega
  funext k
  match k with
  | ⟨0, _⟩ => exact Fin.ext (by simp [Rect.emb, Rect.unit, h0])
  | ⟨1, _⟩ => exact Fin.ext (by simp [Rect.emb, Rect.unit])
  | ⟨2, _⟩ => exact Fin.ext (by simp [Rect.emb, Rect.unit])

/-- The block's elements of `W`, read as the matrix they are. -/
theorem read_block (b : ℕ) (hb : b < 114) (off : Fin 3 → ℕ) (inb : ∀ a, off a + S1x512x3072.size a ≤ S19x3072x3072.size a)
    (h : off = ![b / 6, 512 * (b % 6), 0]) :
    (((Memref.whole main_arg1).slice (Rect.unit (s := S19x3072x3072) off S1x512x3072.size inb) (fun _ => rfl)).squeeze
      S512x3072 squeezes_S1x512x3072_S512x3072).view.read (Elt F) w = blkV w b := by
  subst h
  funext x
  obtain ⟨x0, x1, rfl⟩ : ∃ (x0 : Fin 512) (x1 : Fin 3072), x = ix2 x0 x1 := ⟨x 0, x 1, eq_ix2 x⟩
  show w ((Rect.unit (s := S19x3072x3072) ![b / 6, 512 * (b % 6), 0] S1x512x3072.size inb).emb (Shape.reshapeEquiv _ _)) = _
  rw [reshapeEquiv_ix2_1ab]
  unfold blkV
  congr 1
  funext a
  match a with
  | ⟨0, _⟩ => exact Fin.ext (by simp [Rect.emb, Rect.unit]; omega)
  | ⟨1, _⟩ => exact Fin.ext (by simp [Rect.emb, Rect.unit])
  | ⟨2, _⟩ => exact Fin.ext (by simp [Rect.emb, Rect.unit])

/-- Block `b` started into its slot. -/
theorem start_block (b : ℕ) (hb : b < 114) (o1 : Fin 1 → ℕ) (o2 o3 : Fin 3 → ℕ) (h1 : o1 = ![b % 4]) (h2 : o2 = ![b % 4, 0, 0])
    (h3 : o3 = ![b / 6, 512 * (b % 6), 0]) (i1 : ∀ a, o1 a + S1.size a ≤ S4.size a)
    (i2 : ∀ a, o2 a + S1x512x3072.size a ≤ S4x512x3072.size a) (i3 : ∀ a, o3 a + S1x512x3072.size a ≤ S19x3072x3072.size a)
    {hsrc hdst hsem} (Q : PUnit → sProp 𝕄) :
    iprop(restS c w (md b) ∗ (flyS c w b -∗ Q ⟨⟩))
    ⊢ runs c (Prog.lift (.enqueueDma
        (((Memref.whole main_arg1).slice (Rect.unit (s := S19x3072x3072) o3 S1x512x3072.size i3) (fun _ => rfl)).squeeze S512x3072 squeezes_S1x512x3072_S512x3072)
        (.here (((Memref.whole cc1_scratch4).slice (Rect.unit (s := S4x512x3072) o2 S1x512x3072.size i2) (fun _ => rfl)).squeeze S512x3072 squeezes_S1x512x3072_S512x3072))
        (.dma ((cc1_scratch9.slice (Rect.unit (s := S4) o1 S1.size i1)).squeeze S_ squeezes_S1_S_).sem) hsrc hdst hsem)) Q := by
  subst h1; subst h2
  have hr := read_block c w b hb o3 i3 h3
  unfold restS slotHas owns
  iintro ⟨⟨⟨%X, %f, -, Hs⟩, Hq, Hw⟩, HQ⟩
  iapply (runs_start c _ (slotM (md b)) (wsem (md b)) (q := shareTok fullShare 4 (md b)) (fs := w) (fd := f)
    (slotM (md b)).view.set (Finset.Subset.refl _) (by decide) iprop(slotHas c (md b) (blkV w b) ∗ wTok c w (md b)) Q (by
      unfold slotHas owns
      iintro ⟨Hd, Hw⟩
      isplitl [Hd]
      · iexists _
        isplitr; swap; · iexact Hd
        ipureintro
        rw [View.read_write_univ, hr]
      · iexact Hw))
  isplitl [Hw]; · iexact Hw
  isplitl [Hs]; · iexact Hs
  isplitl [Hq] <;> iassumption

/-- Block `b` waited for. -/
theorem wait_block (b : ℕ) (o1 : Fin 1 → ℕ) (o2 o3 : Fin 3 → ℕ) (h1 : o1 = ![b % 4]) (h2 : o2 = ![b % 4, 0, 0])
    (i1 : ∀ a, o1 a + S1.size a ≤ S4.size a)
    (i2 : ∀ a, o2 a + S1x512x3072.size a ≤ S4x512x3072.size a) (i3 : ∀ a, o3 a + S1x512x3072.size a ≤ S19x3072x3072.size a)
    {hsrc hdst} (Q : PUnit → sProp 𝕄) :
    iprop(flyS c w b ∗ idle c ∗ (iprop(slotHas c (md b) (blkV w b) ∗ wTok c w (md b) ∗ quiet c (wsem (md b)) ∗ idle c) -∗ Q ⟨⟩))
    ⊢ runs c (Prog.lift (.waitDma2 ((cc1_scratch9.slice (Rect.unit (s := S4) o1 S1.size i1)).squeeze S_ squeezes_S1_S_).sem
        (((Memref.whole main_arg1).slice (Rect.unit (s := S19x3072x3072) o3 S1x512x3072.size i3) (fun _ => rfl)).squeeze S512x3072 squeezes_S1x512x3072_S512x3072)
        (((Memref.whole cc1_scratch4).slice (Rect.unit (s := S4x512x3072) o2 S1x512x3072.size i2) (fun _ => rfl)).squeeze S512x3072 squeezes_S1x512x3072_S512x3072)
        hsrc hdst)) Q := by
  subst h1; subst h2
  iintro ⟨Hf, HO, HQ⟩
  iapply (runs_wait c _ _ _ _ rfl iprop(slotHas c (md b) (blkV w b) ∗ wTok c w (md b)) Q)
  isplitl [Hf]; · iexact Hf
  isplitl [HO]; · iexact HO
  iintro ⟨⟨Hs, Hw⟩, Hq, HO⟩
  iapply HQ
  isplitl [Hs]; · iexact Hs
  isplitl [Hw]; · iexact Hw
  isplitl [Hq] <;> iassumption

/-- The elements of a slot a load of its first `n` rows goes through are the slot's. -/
theorem set_slot {n : ℕ} (s : Fin 4) (off : Fin 3 → ℕ)
    (inb : ∀ a, off a + (⟨3, ![1, n, 3072]⟩ : Shape).size a ≤ S4x512x3072.size a) (h : off = ![s.val, 0, 0]) (hn : n ≤ 512) :
    ((Memref.whole cc1_scratch4).access (Rect.unit (s := S4x512x3072) off (⟨3, ![1, n, 3072]⟩ : Shape).size inb)).set ⊆ (slotM s).view.set := by
  subst h
  intro y hy
  obtain ⟨x, -, rfl⟩ := Finset.mem_map.mp hy
  obtain ⟨a, b, d, rfl⟩ : ∃ (a : Fin 1) (b : Fin n) (d : Fin 3072), x = ix3 a b d := ⟨x 0, x 1, x 2, eq_ix3 x⟩
  refine Finset.mem_map.mpr ⟨ix2 (Fin.castLE hn b) d, Finset.mem_univ _, ?_⟩
  show (Rect.unit (s := S4x512x3072) ![s.val, 0, 0] S1x512x3072.size (inb_slot s)).emb (Shape.reshapeEquiv _ (ix2 (Fin.castLE hn b) d))
    = (Rect.unit (s := S4x512x3072) ![s.val, 0, 0] (⟨3, ![1, n, 3072]⟩ : Shape).size inb).emb (ix3 a b d)
  rw [reshapeEquiv_ix2_1ab]
  have h0 : a.val = 0 := by omega
  funext k
  match k with
  | ⟨0, _⟩ => exact Fin.ext (by simp [Rect.emb, Rect.unit, h0])
  | ⟨1, _⟩ => exact Fin.ext (by simp [Rect.emb, Rect.unit])
  | ⟨2, _⟩ => exact Fin.ext (by simp [Rect.emb, Rect.unit])

/-- A slot loaded. -/
theorem load_slot {n : ℕ} (s : Fin 4) (X : S512x3072.Idx → F .f32) (off : Fin 3 → ℕ)
    (inb : ∀ a, off a + (⟨3, ![1, n, 3072]⟩ : Shape).size a ≤ S4x512x3072.size a) (h : off = ![s.val, 0, 0]) (hn : n ≤ 512)
    {hl} (Q : ((⟨3, ![1, n, 3072]⟩ : Shape).Idx → Elt F .f32) → sProp 𝕄) :
    iprop(slotHas c s X ∗ (slotHas c s X -∗ Q (rows3 hn X)))
    ⊢ runs c (Prog.lift (.load (Memref.whole cc1_scratch4) (Rect.unit (s := S4x512x3072) off (⟨3, ![1, n, 3072]⟩ : Shape).size inb).toLoadRect hl)) Q := by
  unfold slotHas owns
  iintro ⟨⟨%f, %hf, H⟩, HQ⟩
  iapply (runs_load c (Memref.whole cc1_scratch4) (Rect.unit (s := S4x512x3072) off (⟨3, ![1, n, 3072]⟩ : Shape).size inb)
    (S := (slotM s).view.set) (f := f) (set_slot s off inb h hn) Q)
  isplitl [H]; · iexact H
  iintro H
  have e : ((Memref.whole cc1_scratch4).access (Rect.unit (s := S4x512x3072) off (⟨3, ![1, n, 3072]⟩ : Shape).size inb)).read (Elt F) f
      = rows3 hn X := by
    funext x; rw [read_slot s f off inb h hn x, hf]; rfl
  rw [e]
  iapply HQ
  iexists f
  isplitr; · ipureintro; exact hf
  iexact H

end Cert.Proof

end
-- ==== Proof.Values.lean ====
/-
  What the layers compute, tile by tile: the check node's two packed halves, a layer's output, the result.
-/
module

public import proofs.«01_k».proof.Proof.Slots

@[expose] public section

noncomputable section

namespace Cert.Proof

open Cert.KernelIdeal Cert.KernelIdeal.Gen
open Idealize.ShloMosaic Idealize.ShloMosaic.ValueIdx

variable {F : FTy → Type} [FloatOps F]

/-- What the layers are given: the first layer's input, the bias, the channel term, the weights, the mask, the output
    weights. -/
structure Ins (F : FTy → Type) where
  t0 : S256x3072.Idx → F .f32
  bias : S256x3072.Idx → F .f32
  lm : S256x768.Idx → F .f32
  w : S19x3072x3072.Idx → F .f32
  M : S3072x3072.Idx → F .f32
  wo : S768x3072.Idx → F .f32

/-- Columns `512 j` to `512 j + 511` (`j < 6`) of a matrix of 3072 columns. -/
def colTile {n : ℕ} {α : Type} (X : (⟨2, ![n, 3072]⟩ : Shape).Idx → α) (j : ℕ) : (⟨2, ![n, 512]⟩ : Shape).Idx → α :=
  fun x => X (ix2 (x 0) (⟨512 * (j % 6) + (x 1).val, by have := idx2_lt1 x; omega⟩ : Fin 3072))
/-- Rows `512 j` to `512 j + 511` (`j < 6`) of a matrix of 3072 rows. -/
def rowTile {n : ℕ} {α : Type} (X : (⟨2, ![3072, n]⟩ : Shape).Idx → α) (j : ℕ) : (⟨2, ![512, n]⟩ : Shape).Idx → α :=
  fun x => X (ix2 (⟨512 * (j % 6) + (x 0).val, by have := idx2_lt0 x; omega⟩ : Fin 3072) (x 1))
/-- Rows `256 j` to `256 j + 255` (`j < 12`) of a matrix of 3072 rows. -/
def chunk {n : ℕ} {α : Type} (X : (⟨2, ![3072, n]⟩ : Shape).Idx → α) (j : ℕ) : (⟨2, ![256, n]⟩ : Shape).Idx → α :=
  fun x => X (ix2 (⟨256 * (j % 12) + (x 0).val, by have := idx2_lt0 x; omega⟩ : Fin 3072) (x 1))

variable (I : Ins F)

/-- The mask as the kernel keeps it. -/
def Mb : S3072x3072.Idx → F .bf16 := fun i =>
  k1_pay1 (chunk I.M ((i 0).val / 256)) (ix2 (⟨(i 0).val % 256, Nat.mod_lt _ (by decide)⟩ : Fin 256) (i 1))

/-- The logarithms of weight block `b` on layer input `T`, -/
def logTile (T : S256x3072.Idx → F .f32) (b : ℕ) : S256x512.Idx → F .bf16 :=
  k1_pay2 (k1_pay8 T (rows3 le_rfl (blkV I.w b)) (colTile I.bias b))
/-- and its packed counts. -/
def cntTile (T : S256x3072.Idx → F .f32) (b : ℕ) : S256x512.Idx → F .bf16 :=
  k1_pay3 (k1_pay9 T (rows3 le_rfl (blkV I.w b)) (colTile I.bias b)) (k1_pay10 T (rows3 le_rfl (blkV I.w b)) (colTile I.bias b))

/-- The logarithms above the packed counts, of layer `l` on `T`. -/
def packed (T : S256x3072.Idx → F .f32) (l : ℕ) : S512x3072.Idx → F .bf16 := fun i =>
  if h : (i 0).val < 256 then
    logTile I T (6 * l + (i 1).val / 512) (ix2 (⟨(i 0).val, h⟩ : Fin 256) (⟨(i 1).val % 512, Nat.mod_lt _ (by decide)⟩ : Fin 512))
  else
    cntTile I T (6 * l + (i 1).val / 512)
      (ix2 (⟨(i 0).val - 256, by have := idx2_lt0 i; omega⟩ : Fin 256) (⟨(i 1).val % 512, Nat.mod_lt _ (by decide)⟩ : Fin 512))

/-- Columns `512 j` on of layer `l`'s output on `T`. -/
def outTile (T : S256x3072.Idx → F .f32) (l j : ℕ) : S256x512.Idx → F .f32 :=
  k1_pay4 (k1_pay11 (packed I T l) (rowTile (Mb I) j))

/-- Layer `l`'s output on `T`. -/
def layer (T : S256x3072.Idx → F .f32) (l : ℕ) : S256x3072.Idx → F .f32 := fun i =>
  outTile I T l ((i 1).val / 512) (ix2 (i 0) (⟨(i 1).val % 512, Nat.mod_lt _ (by decide)⟩ : Fin 512))

/-- The input of layer `l`. -/
def at_ : ℕ → S256x3072.Idx → F .f32
  | 0 => I.t0
  | l + 1 => layer I (at_ l) l

/-- The first 512 output weights, and the other 256, each with a leading axis of one; -/
def woLo : S512x3072.Idx → F .f32 := fun x => I.wo (ix2 (⟨(x 0).val, by have := idx2_lt0 x; omega⟩ : Fin 768) (x 1))
def woHi : S256x3072.Idx → F .f32 := fun x => I.wo (ix2 (⟨512 + (x 0).val, by have := idx2_lt0 x; omega⟩ : Fin 768) (x 1))
/-- the channel term's columns beside them. -/
def lmLo : S256x512.Idx → F .f32 := fun x => I.lm (ix2 (x 0) (⟨(x 1).val, by have := idx2_lt1 x; omega⟩ : Fin 768))
def lmHi : S256x256.Idx → F .f32 := fun x => I.lm (ix2 (x 0) (⟨512 + (x 1).val, by have := idx2_lt1 x; omega⟩ : Fin 768))

/-- A matrix with a leading axis of one. -/
def lead {n : ℕ} (X : (⟨2, ![n, 3072]⟩ : Shape).Idx → F .f32) : (⟨3, ![1, n, 3072]⟩ : Shape).Idx → F .f32 :=
  fun x => X (ix2 (x 1) (x 2))

/-- The result, on the last layer's output `T`. -/
def result (T : S256x3072.Idx → F .f32) : S256x768.Idx → F .f32 := fun i =>
  if h : (i 1).val < 512 then
    k1_pay12 T (lead (woLo I)) (lmLo I) (ix2 (i 0) (⟨(i 1).val, h⟩ : Fin 512))
  else
    k1_pay5 (k1_pay13 T (lead (woHi I)) (lmHi I)) (ix2 (i 0) (⟨(i 1).val - 512, by have := idx2_lt1 i; omega⟩ : Fin 256))

end Cert.Proof

end
-- ==== Proof.Steps.lean ====
/-
  The layers' program at a grid point, as six steps, each a conditional handed what follows it.
-/
module

public import proofs.«01_k».proof.Proof.Values

@[expose] public section

noncomputable section

namespace Cert.Proof

open Cert.KernelIdeal Cert.KernelIdeal.Gen
open Idealize.ShloMosaic
open Idealize.ShloMosaic.TcCoe
open Idealize.SL.Sem

variable {F : FTy → Type} [FloatOps F]

/-- A program of the kernel that returns nothing. -/
abbrev Code (F : FTy → Type) : Type 1 := Prog (TpuEff nD τ sig (Elt F) Λ₀ .tc) PUnit

/-- Input semaphore `r`, -/
abbrev isem (o : Fin 1 → ℕ) (h : ∀ a, o a + S1.size a ≤ S4.size a) : DmaSem sig :=
  ((cc1_scratch8.slice (Rect.unit (s := S4) o S1.size h)).squeeze S_ squeezes_S1_S_).sem
/-- slot semaphore `r`, -/
abbrev osem' (o : Fin 1 → ℕ) (h : ∀ a, o a + S1.size a ≤ S4.size a) : DmaSem sig :=
  ((cc1_scratch9.slice (Rect.unit (s := S4) o S1.size h)).squeeze S_ squeezes_S1_S_).sem
/-- a slot, -/
abbrev slotO (o : Fin 3 → ℕ) (h : ∀ a, o a + S1x512x3072.size a ≤ S4x512x3072.size a) : Memref sig .tc .vmem S512x3072 .f32 :=
  ((Memref.whole cc1_scratch4).slice (Rect.unit (s := S4x512x3072) o S1x512x3072.size h) (fun _ => rfl)).squeeze S512x3072 squeezes_S1x512x3072_S512x3072
/-- the first 256 rows of one, -/
abbrev slotH (o : Fin 3 → ℕ) (h : ∀ a, o a + S1x256x3072.size a ≤ S4x512x3072.size a) : Memref sig .tc .vmem S256x3072 .f32 :=
  ((Memref.whole cc1_scratch4).slice (Rect.unit (s := S4x512x3072) o S1x256x3072.size h) (fun _ => rfl)).squeeze S256x3072 squeezes_S1x256x3072_S256x3072
/-- a block of the weights, -/
abbrev blkO (o : Fin 3 → ℕ) (h : ∀ a, o a + S1x512x3072.size a ≤ S19x3072x3072.size a) : Memref sig .tc .hbm S512x3072 .f32 :=
  ((Memref.whole main_arg1).slice (Rect.unit (s := S19x3072x3072) o S1x512x3072.size h) (fun _ => rfl)).squeeze S512x3072 squeezes_S1x512x3072_S512x3072
/-- rows of the mask. -/
abbrev mskO (o : Fin 2 → ℕ) (h : ∀ a, o a + S256x3072.size a ≤ S3072x3072.size a) : Memref sig .tc .hbm S256x3072 .f32 :=
  (Memref.whole main_arg7).slice (Rect.unit (s := S3072x3072) o S256x3072.size h) (fun _ => rfl)

/-- The first point's transfers. -/
def step1 (i : grid1.Coords) (k : Code F) : Prog (TpuEff nD τ sig (Elt F) Λ₀ .tc) PUnit :=
  if h : k1_cond1 i = 1#1 then do
    k1_part1 i (Memref.whole main_v4_0) (Memref.isWhole_whole _) (Memref.whole main_arg1) (Memref.isWhole_whole _) (Memref.whole main_arg7) (Memref.isWhole_whole _) (Memref.whole main_v4_1) (Memref.isWhole_whole _) (Memref.whole main_v4_2) (Memref.isWhole_whole _) (Memref.whole main_arg2) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 h
    k1_part2 i (Memref.whole main_v4_0) (Memref.isWhole_whole _) (Memref.whole main_arg1) (Memref.isWhole_whole _) (Memref.whole main_arg7) (Memref.isWhole_whole _) (Memref.whole main_v4_1) (Memref.isWhole_whole _) (Memref.whole main_v4_2) (Memref.isWhole_whole _) (Memref.whole main_arg2) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 h
    Prog.lift (.waitDma2 (isem ![1] inb_S4_S1_1) (Memref.whole main_v4_1) (Memref.whole cc1_scratch3) (Memref.isWhole_whole _).wordExact (Memref.isWhole_whole _).wordExact)
    k
  else k

/-- The first layer's transfer of the mask. -/
def step2 (i : grid1.Coords) (k : Code F) : Prog (TpuEff nD τ sig (Elt F) Λ₀ .tc) PUnit :=
  if h : k1_cond2 i = 1#1 then do
    Prog.lift (.waitDma2 (isem ![2] inb_S4_S1_2) (mskO (k1_off4 i) (k1_off4_inb i h)) (Memref.whole cc1_scratch7) (View.wordExact_bits rfl) (Memref.isWhole_whole _).wordExact)
    let v28 : Vec F S256x3072 .f32 ← Prog.lift (.load (Memref.whole cc1_scratch7) (Rect.unit (s := S256x3072) ![0, 0] S256x3072.size inb_S256x3072_S256x3072_0_0).toLoadRect (View.loadsAt_vmem h_S256x3072))
    let v32 : Vec F S256x3072 .bf16 ← Prog.lift (.load (Memref.whole cc1_scratch2) (Rect.unit (s := S3072x3072) (k1_off5 i) S256x3072.size (k1_off5_inb i h)).toLoadRect (View.loadsAt_vmem h_S256x3072))
    Prog.lift (.store (Memref.whole cc1_scratch2) (Rect.unit (s := S3072x3072) (k1_off5 i) S256x3072.size (k1_off5_inb i h)) (k1_pay1 v28) Finset.univ (View.stores_vmem h_S256x3072 ((Memref.isWhole_whole _).storeExact_slice rfl _ (k1_off5_packedbf16 i h)) (fun _ => rfl)) (.inl rfl))
    if h3 : k1_cond3 i = 1#1 then do
      Prog.lift (.enqueueDma (mskO (k1_off6 i) (k1_off6_inb i h h3)) (.here (Memref.whole cc1_scratch7)) (.dma (isem ![2] inb_S4_S1_2)) (View.wordExact_bits rfl) (Memref.isWhole_whole _).wordExact ⟨Or.inl rfl, trivial⟩)
      k
    else k
  else k

/-- A weight block: waited for, used, and the block three ahead started. -/
def step3 (i : grid1.Coords) (k : Code F) : Prog (TpuEff nD τ sig (Elt F) Λ₀ .tc) PUnit :=
  if h : k1_cond4 i = 1#1 then do
    let ⟨_, v55, v57, v61⟩ ← k1_part3 i (Memref.whole main_v4_0) (Memref.isWhole_whole _) (Memref.whole main_arg1) (Memref.isWhole_whole _) (Memref.whole main_arg7) (Memref.isWhole_whole _) (Memref.whole main_v4_1) (Memref.isWhole_whole _) (Memref.whole main_v4_2) (Memref.isWhole_whole _) (Memref.whole main_arg2) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 (BitVec.ofNat 32 (i 0).val) (BitVec.ofNat 32 (i 1).val) h
    let v68 : Vec F S256x512 .bf16 ← Prog.lift (.load (Memref.whole cc1_scratch1) (Rect.unit (s := S512x3072) (k1_off12 i) S256x512.size (k1_off12_inb i h)).toLoadRect (View.loadsAt_vmem h_S256x512))
    Prog.lift (.store (Memref.whole cc1_scratch1) (Rect.unit (s := S512x3072) (k1_off12 i) S256x512.size (k1_off12_inb i h)) (k1_pay2 v55) Finset.univ (View.stores_vmem h_S256x512 ((Memref.isWhole_whole _).storeExact_slice rfl _ (k1_off12_packedbf16 i h)) (fun _ => rfl)) (.inl rfl))
    let v74 : Vec F S256x512 .bf16 ← Prog.lift (.load (Memref.whole cc1_scratch1) (Rect.unit (s := S512x3072) (k1_off13 i) S256x512.size (k1_off13_inb i h)).toLoadRect (View.loadsAt_vmem h_S256x512))
    Prog.lift (.store (Memref.whole cc1_scratch1) (Rect.unit (s := S512x3072) (k1_off13 i) S256x512.size (k1_off13_inb i h)) (k1_pay3 v57 v61) Finset.univ (View.stores_vmem h_S256x512 ((Memref.isWhole_whole _).storeExact_slice rfl _ (k1_off13_packedbf16 i h)) (fun _ => rfl)) (.inl rfl))
    if h5 : k1_cond5 i = 1#1 then
      if h6 : k1_cond6 i = 1#1 then do
        Prog.lift (.enqueueDma (blkO (k1_off16 i) (k1_off16_inb i h h5 h6)) (.here (slotO (k1_off15 i) (k1_off15_inb i h h5 h6))) (.dma (osem' (k1_off14 i) (k1_off14_inb i h h5 h6))) ((View.wordExact_bits rfl).reshape _ _) ((View.wordExact_bits rfl).reshape _ _) ⟨Or.inl rfl, trivial⟩)
        k
      else k
    else k
  else k

/-- A tile of the layer's output. -/
def step4 (i : grid1.Coords) (k : Code F) : Prog (TpuEff nD τ sig (Elt F) Λ₀ .tc) PUnit :=
  if h : k1_cond7 i = 1#1 then do
    let v61 : FVec F S256x512 .f32 ← k1_part4 i (Memref.whole main_v4_0) (Memref.isWhole_whole _) (Memref.whole main_arg1) (Memref.isWhole_whole _) (Memref.whole main_arg7) (Memref.isWhole_whole _) (Memref.whole main_v4_1) (Memref.isWhole_whole _) (Memref.whole main_v4_2) (Memref.isWhole_whole _) (Memref.whole main_arg2) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 (BitVec.ofNat 32 (i 1).val) h
    Prog.lift (.store (Memref.whole cc1_scratch0) (Rect.unit (s := S256x3072) (k1_off18 i) S256x512.size (k1_off18_inb i h)) (k1_pay4 v61) Finset.univ (View.stores_vmem_bits_univ h_S256x512 rfl) (.inl rfl))
    k
  else k

/-- Whether the point is layer 18's sixth step or its last: the words of the program's two closing conditions. -/
def last6 (i : grid1.Coords) : BitVec 1 :=
  Scalar.cmpi .ne (Scalar.extui (Scalar.andi (Scalar.cmpi .eq (BitVec.ofNat 32 (i 0).val) 18#32) (Scalar.cmpi .eq (BitVec.ofNat 32 (i 1).val) 6#32))) 0#32
def last11 (i : grid1.Coords) : BitVec 1 :=
  Scalar.cmpi .ne (Scalar.extui (Scalar.andi (Scalar.cmpi .eq (BitVec.ofNat 32 (i 0).val) 18#32) (Scalar.cmpi .eq (BitVec.ofNat 32 (i 1).val) 11#32))) 0#32

/-- The output weights started. -/
def step5 (i : grid1.Coords) (k : Code F) : Prog (TpuEff nD τ sig (Elt F) Λ₀ .tc) PUnit :=
  if last6 i = 1#1 then do
    Prog.lift (.enqueueDma ((Memref.whole main_arg2).slice (Rect.unit (s := S768x3072) ![0, 0] S512x3072.size inb_S768x3072_S512x3072_0_0) (fun _ => rfl)) (.here (slotO ![0, 0, 0] inb_S4x512x3072_S1x512x3072_0_0_0)) (.dma (osem' ![0] inb_S4_S1_0)) (View.wordExact_bits rfl) ((View.wordExact_bits rfl).reshape _ _) ⟨Or.inl rfl, trivial⟩)
    Prog.lift (.enqueueDma ((Memref.whole main_arg2).slice (Rect.unit (s := S768x3072) ![512, 0] S256x3072.size inb_S768x3072_S256x3072_512_0) (fun _ => rfl)) (.here (slotH ![1, 0, 0] inb_S4x512x3072_S1x256x3072_1_0_0)) (.dma (osem' ![1] inb_S4_S1_1)) (View.wordExact_bits rfl) ((View.wordExact_bits rfl).reshape _ _) ⟨Or.inl rfl, trivial⟩)
    k
  else k

/-- The result computed and sent out. -/
def step6 (i : grid1.Coords) (k : Code F) : Prog (TpuEff nD τ sig (Elt F) Λ₀ .tc) PUnit :=
  if last11 i = 1#1 then do
    let v50 : FVec F S256x256 .f32 ← k1_part5 i (Memref.whole main_v4_0) (Memref.isWhole_whole _) (Memref.whole main_arg1) (Memref.isWhole_whole _) (Memref.whole main_arg7) (Memref.isWhole_whole _) (Memref.whole main_v4_1) (Memref.isWhole_whole _) (Memref.whole main_v4_2) (Memref.isWhole_whole _) (Memref.whole main_arg2) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10
    let v52 : Vec F S256x256 .f32 ← Prog.lift (.load (Memref.whole cc1_scratch6) (Rect.unit (s := S256x768) ![0, 512] S256x256.size inb_S256x768_S256x256_0_512).toLoadRect (View.loadsAt_vmem h_S256x256))
    Prog.lift (.store (Memref.whole cc1_scratch6) (Rect.unit (s := S256x768) ![0, 512] S256x256.size inb_S256x768_S256x256_0_512) (k1_pay5 v50) Finset.univ (View.stores_vmem_bits_univ h_S256x256 rfl) (.inl rfl))
    Prog.lift (.enqueueDma (Memref.whole cc1_scratch6) (.here (Memref.whole main_v5)) (.dma cc1_scratch10.sem) (Memref.isWhole_whole _).wordExact (Memref.isWhole_whole _).wordExact ⟨Or.inl rfl, trivial⟩)
    Prog.lift (.waitDma2 cc1_scratch10.sem (Memref.whole cc1_scratch6) (Memref.whole main_v5) (Memref.isWhole_whole _).wordExact (Memref.isWhole_whole _).wordExact)
    k
  else k

set_option maxRecDepth 65536 in
set_option maxHeartbeats 4000000 in
/-- The body at a point is the six steps. -/
theorem body_steps (i : grid1.Coords) :
    cc1_bp_layers (F := F) i (Memref.whole main_v4_0) (Memref.isWhole_whole _) (Memref.whole main_arg1) (Memref.isWhole_whole _) (Memref.whole main_arg7) (Memref.isWhole_whole _) (Memref.whole main_v4_1) (Memref.isWhole_whole _) (Memref.whole main_v4_2) (Memref.isWhole_whole _) (Memref.whole main_arg2) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10
      = step1 i (step2 i (step3 i (step4 i (step5 i (step6 i (pure ⟨⟩)))))) := by
  rw [cc1_bp_layers_eq_skeleton]
  rfl

end Cert.Proof

end
-- ==== Proof.Layers.lean ====
/-
  The layers' steps on a core: what each takes and what it leaves.
-/
module

public import proofs.«01_k».proof.Proof.Steps

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

/-! ## Loads and stores of a matrix held whole -/

/-- A rectangle at `(a, b)` loaded: `v`, if `v` is what the matrix has there. -/
theorem load2 (c : Dev nD) {cs : CoreSpace} {n0 n1 s0 s1 : ℕ} {e : EltTy} (m : Memref sig .tc cs ⟨2, ![n0, n1]⟩ e) (off : Fin 2 → ℕ)
    (inb : ∀ a, off a + (⟨2, ![s0, s1]⟩ : Shape).size a ≤ (⟨2, ![n0, n1]⟩ : Shape).size a) (a b : ℕ) (h : off = ![a, b])
    {hl} {q : PosShare TreeShare} (f : Bf (F := F) c m) (v : (⟨2, ![s0, s1]⟩ : Shape).Idx → Elt F e)
    (hv : ∀ (x : (⟨2, ![s0, s1]⟩ : Shape).Idx) (y : (⟨2, ![n0, n1]⟩ : Shape).Idx),
      (y 0).val = a + (x 0).val → (y 1).val = b + (x 1).val → m.view.read (Elt F) f y = v x)
    (Q : ((⟨2, ![s0, s1]⟩ : Shape).Idx → Elt F e) → sProp 𝕄) :
    iprop((m.view.loc (c : Thread nD τ) ↦{q} f) ∗ ((m.view.loc (c : Thread nD τ) ↦{q} f) -∗ Q v))
    ⊢ runs c (Prog.lift (.load m (Rect.unit (s := ⟨2, ![n0, n1]⟩) off (⟨2, ![s0, s1]⟩ : Shape).size inb).toLoadRect hl)) Q := by
  subst h
  iintro ⟨H, HQ⟩
  iapply (runs_load c m (Rect.unit (s := ⟨2, ![n0, n1]⟩) ![a, b] (⟨2, ![s0, s1]⟩ : Shape).size inb) (f := f) (Finset.subset_univ _) Q)
  isplitl [H]; · iexact H
  iintro H
  have e1 : (m.access (Rect.unit (s := ⟨2, ![n0, n1]⟩) ![a, b] (⟨2, ![s0, s1]⟩ : Shape).size inb)).read (Elt F) f = v := by
    funext x
    exact (read_rect2 m f ![a, b] inb x).trans (hv x _ rfl rfl)
  rw [e1]
  iapply HQ $$ H

/-- A rectangle at `(a, b)` stored: the matrix is then anything that has `w` there and is elsewhere as it was. -/
theorem store2 (c : Dev nD) {cs : CoreSpace} {n0 n1 s0 s1 : ℕ} {e : EltTy} (m : Memref sig .tc cs ⟨2, ![n0, n1]⟩ e) (off : Fin 2 → ℕ)
    (inb : ∀ a, off a + (⟨2, ![s0, s1]⟩ : Shape).size a ≤ (⟨2, ![n0, n1]⟩ : Shape).size a) (a b : ℕ) (h : off = ![a, b])
    (w : (⟨2, ![s0, s1]⟩ : Shape).Idx → Elt F e) {hx hm} (f : Bf (F := F) c m) (P : Bf (F := F) c m → Prop)
    (hP : ∀ f' : Bf (F := F) c m,
      (∀ (x : (⟨2, ![s0, s1]⟩ : Shape).Idx) (y : (⟨2, ![n0, n1]⟩ : Shape).Idx),
        (y 0).val = a + (x 0).val → (y 1).val = b + (x 1).val → m.view.read (Elt F) f' y = w x) →
      (∀ y : (⟨2, ![n0, n1]⟩ : Shape).Idx, ((y 0).val < a ∨ a + s0 ≤ (y 0).val ∨ (y 1).val < b ∨ b + s1 ≤ (y 1).val) →
        m.view.read (Elt F) f' y = m.view.read (Elt F) f y) → P f')
    (Q : PUnit → sProp 𝕄) :
    iprop(pt c m f ∗ (iprop(∃ f', ⌜P f'⌝ ∗ pt c m f') -∗ Q ⟨⟩))
    ⊢ runs c (Prog.lift (.store m (Rect.unit (s := ⟨2, ![n0, n1]⟩) off (⟨2, ![s0, s1]⟩ : Shape).size inb) w Finset.univ hx hm)) Q := by
  subst h
  iintro ⟨H, HQ⟩
  iapply (runs_store c m (Rect.unit (s := ⟨2, ![n0, n1]⟩) ![a, b] (⟨2, ![s0, s1]⟩ : Shape).size inb) w (f := f) Q)
  isplitl [H]; · iexact H
  iintro H
  iapply HQ
  iexists _
  isplitr; swap; · iexact H
  ipureintro
  exact hP _ (fun x y h0 h1 => write_rect2_in m f ![a, b] inb w y x h0 h1) (fun y hy => write_rect2_out m f ![a, b] inb w y hy)

/-- A buffer read whole is its contents, and written whole holds what was written. -/
theorem write_whole (b : Ref sig .tc) (f : (Memref.whole b).view.ty.Contents (Elt F)) (w : b.ty.shape.Idx → Elt F b.ty.elt) :
    (Memref.whole b).view.write (Elt F) f w Finset.univ = w :=
  View.read_write_univ (v := (Memref.whole b).view) f w

variable (c : Dev nD) (I : Ins F)

/-! ## What the buffers hold -/

/-- The layer buffer at step `j` of layer `l`. -/
def TV (l j : ℕ) (f : S256x3072.Idx → F .f32) : Prop :=
  (j < 6 → f = at_ I l) ∧ (6 ≤ j → ∀ i : S256x3072.Idx, (i 1).val < 512 * (j - 6) → f i = at_ I (l + 1) i)
/-- The packed buffer there. -/
def CV (l j : ℕ) (f : S512x3072.Idx → F .bf16) : Prop :=
  ∀ i : S512x3072.Idx, (i 1).val < 512 * min j 6 → f i = packed I (at_ I l) l i
/-- The mask's buffer after `n` chunks. -/
def MV (n : ℕ) (f : S3072x3072.Idx → F .bf16) : Prop :=
  ∀ i : S3072x3072.Idx, (i 0).val < 256 * n → f i = Mb I i

abbrev tBuf : sProp 𝕄 := iprop(∃ f, pt (F := F) c (Memref.whole cc1_scratch0) f)
abbrev tHas (l j : ℕ) : sProp 𝕄 := iprop(∃ f, ⌜TV I l j f⌝ ∗ pt c (Memref.whole cc1_scratch0) f)
abbrev cHas (l j : ℕ) : sProp 𝕄 := iprop(∃ f, ⌜CV I l j f⌝ ∗ pt c (Memref.whole cc1_scratch1) f)
abbrev mHas (n : ℕ) : sProp 𝕄 := iprop(∃ f, ⌜MV I n f⌝ ∗ pt c (Memref.whole cc1_scratch2) f)
abbrev bHas : sProp 𝕄 := pt c (Memref.whole cc1_scratch3) I.bias

/-- Chunk `j` of the mask in flight; -/
abbrev flyM (j : ℕ) : sProp 𝕄 :=
  flying c (isem ![2] inb_S4_S1_2) (Memref.whole cc1_scratch7).view.dmaCredit
    iprop(pt (F := F) c (Memref.whole cc1_scratch7) (chunk I.M j) ∗ pt c (Memref.whole main_arg7) I.M)
/-- the mask at rest. -/
abbrev restM : sProp 𝕄 :=
  iprop((∃ f, pt (F := F) c (Memref.whole cc1_scratch7) f) ∗ pt c (Memref.whole main_arg7) I.M ∗ quiet c (isem ![2] inb_S4_S1_2))

/-! ## The mask's step -/

/-- Rows `256 j` on of the mask, read. -/
theorem read_chunk (j : ℕ) (hj : j < 12) (o : Fin 2 → ℕ) (h : o = ![256 * j, 0]) (inb : ∀ a, o a + S256x3072.size a ≤ S3072x3072.size a) :
    (mskO o inb).view.read (Elt F) I.M = chunk I.M j := by
  subst h
  funext x
  refine (read_rect2 (F := F) (Memref.whole main_arg7) I.M _ inb x).trans ?_
  show I.M _ = I.M _
  congr 1
  funext a
  match a with
  | ⟨0, _⟩ => exact Fin.ext (by show 256 * j + (x 0).val = 256 * (j % 12) + (x 0).val; omega)
  | ⟨1, _⟩ => exact Fin.ext (by show 0 + (x 1).val = (x 1).val; omega)

/-- A chunk started. -/
theorem start_chunk (j : ℕ) (hj : j < 12) (o : Fin 2 → ℕ) (h : o = ![256 * j, 0]) (inb : ∀ a, o a + S256x3072.size a ≤ S3072x3072.size a)
    {hsrc hdst hsem} (Q : PUnit → sProp 𝕄) :
    iprop(restM c I ∗ (flyM c I j -∗ Q ⟨⟩))
    ⊢ runs c (Prog.lift (.enqueueDma (mskO o inb) (.here (Memref.whole cc1_scratch7)) (.dma (isem ![2] inb_S4_S1_2)) hsrc hdst hsem)) Q := by
  have hr := read_chunk I j hj o h inb
  iintro ⟨⟨⟨%f, Hs⟩, HM, Hq⟩, HQ⟩
  iapply (runs_start c (mskO o inb) (Memref.whole cc1_scratch7) (isem ![2] inb_S4_S1_2) (q := fullShare) (fs := I.M) (fd := f)
    Finset.univ (Finset.subset_univ _) (by decide) iprop(pt c (Memref.whole cc1_scratch7) (chunk I.M j) ∗ pt c (Memref.whole main_arg7) I.M) Q (by
      rw [hr, write_whole]))
  isplitl [HM]; · iexact HM
  isplitl [Hs]; · iexact Hs
  isplitl [Hq] <;> iassumption

theorem step2_first (j : Fin 12) (k : Code F) (Q : PUnit → sProp 𝕄) :
    iprop(flyM c I j.val ∗ mHas c I j.val ∗ idle c
      ∗ (iprop((if j.val < 11 then flyM c I (j.val + 1) else restM c I) ∗ mHas c I (j.val + 1) ∗ idle c) -∗ runs c k Q))
    ⊢ runs c (step2 (at' 0 j) k) Q := by
  have h2 : k1_cond2 (at' 0 j) = 1#1 := (cond2 0 j).2 rfl
  unfold step2
  rw [dif_pos h2]
  iintro ⟨Hf, ⟨%f, %hf, Hm⟩, HO, HQ⟩
  iapply runs_bind
  iapply (runs_wait c _ _ _ _ rfl _ _)
  isplitl [Hf]; · iexact Hf
  isplitl [HO]; · iexact HO
  iintro ⟨⟨Hs, HM⟩, Hq, HO⟩
  iapply runs_bind
  iapply (load2 c (Memref.whole cc1_scratch7) ![0, 0] inb_S256x3072_S256x3072_0_0 0 0 rfl (chunk I.M j.val) (chunk I.M j.val) (by
    intro x y h0 h1
    have : y = x := by
      funext a
      match a with
      | ⟨0, _⟩ => exact Fin.ext (by simpa using h0)
      | ⟨1, _⟩ => exact Fin.ext (by simpa using h1)
    rw [this]; rfl) _)
  isplitl [Hs]; · iexact Hs
  iintro Hs
  iapply runs_bind
  iapply (runs_load c (Memref.whole cc1_scratch2) _ (f := f) (Finset.subset_univ _) _)
  isplitl [Hm]; · iexact Hm
  iintro Hm
  iapply runs_bind
  iapply (store2 c (Memref.whole cc1_scratch2) (k1_off5 (at' 0 j)) (k1_off5_inb (at' 0 j) h2) (256 * j.val) 0 (off5 0 j rfl) _ f
    (MV I (j.val + 1)) (by
      intro f' hin hout i hi
      by_cases hlt : (i 0).val < 256 * j.val
      · exact (hout i (Or.inl hlt)).trans (hf i hlt)
      · refine (hin (ix2 (⟨(i 0).val % 256, Nat.mod_lt _ (by decide)⟩ : Fin 256) (i 1)) i ?_ ?_).trans ?_
        · simp; omega
        · simp
        · unfold Mb
          rw [show (i 0).val / 256 = j.val by omega]) _)
  isplitl [Hm]; · iexact Hm
  iintro Hm
  by_cases h3 : j.val < 11
  · rw [dif_pos ((cond3 0 j rfl).2 h3), if_pos h3]
    iapply runs_bind
    iapply (start_chunk c I (j.val + 1) (by omega) _ (off6 0 j rfl h3) _ _)
    isplitl [Hs HM Hq]
    · isplitl [Hs]; · iexists _; iexact Hs
      isplitl [HM] <;> iassumption
    iintro Hf
    iapply HQ
    isplitl [Hf]; · iexact Hf
    isplitl [Hm] <;> iassumption
  · rw [dif_neg (fun h => h3 ((cond3 0 j rfl).1 h)), if_neg h3]
    iapply HQ
    isplitl [Hs HM Hq]
    · isplitl [Hs]; · iexists _; iexact Hs
      isplitl [HM] <;> iassumption
    isplitl [Hm] <;> iassumption

/-! ## A weight block's step -/

/-- The ring before block `k` is used. -/
def ring (k : ℕ) : sProp 𝕄 :=
  iprop(hold c I.w k ∗ hold c I.w (k + 1) ∗ hold c I.w (k + 2) ∗ (if k = 0 then hold c I.w 3 else restS c I.w (md (k + 3))))

/-- The ring after block `k`: the three next, and its own slot at rest. -/
theorem ring_next (k : ℕ) :
    iprop(hold c I.w (k + 1) ∗ hold c I.w (k + 2) ∗ hold c I.w (k + 3) ∗ restS c I.w (md k)) ⊢ ring c I (k + 1) := by
  unfold ring
  rw [if_neg (by omega : ¬ k + 1 = 0), show md (k + 1 + 3) = md k from Fin.ext (by show (k + 1 + 3) % 4 = k % 4; omega)]

set_option maxHeartbeats 2000000 in
/-- Step `j < 6` of a layer: its weight block waited for, its logarithms and counts stored, the block three ahead started. -/
theorem step3_block (l : Fin 19) (j : Fin 12) (hj : j.val < 6) (k : Code F) (Q : PUnit → sProp 𝕄) :
    iprop(ring c I (6 * l.val + j.val) ∗ tHas c I l.val j.val ∗ bHas c I ∗ cHas c I l.val j.val ∗ idle c
      ∗ (iprop(ring c I (6 * l.val + j.val + 1) ∗ tHas c I l.val j.val ∗ bHas c I ∗ cHas c I l.val (j.val + 1) ∗ idle c) -∗ runs c k Q))
    ⊢ runs c (step3 (at' l j) k) Q := by
  have h4 : k1_cond4 (at' l j) = 1#1 := (cond4 l j).2 hj
  have hl := l.isLt
  have hg : 6 * l.val + j.val < 114 := by omega
  have hd : (6 * l.val + j.val) / 6 = l.val := by omega
  have hm : (6 * l.val + j.val) % 6 = j.val := by omega
  unfold step3
  rw [dif_pos h4, k1_part3_eq_skeleton]
  unfold k1_part3_skel
  rw [show ring c I (6 * l.val + j.val) = iprop(flyS c I.w (6 * l.val + j.val) ∗ hold c I.w (6 * l.val + j.val + 1)
      ∗ hold c I.w (6 * l.val + j.val + 2)
      ∗ (if 6 * l.val + j.val = 0 then hold c I.w 3 else restS c I.w (md (6 * l.val + j.val + 3)))) from by
    unfold ring; rw [hold_lt c I.w hg]]
  iintro ⟨⟨Hf, Hr1, Hr2, Hr3⟩, ⟨%T, %hT, Ht⟩, Hb, ⟨%f, %hf, Hc⟩, HO, HQ⟩
  obtain rfl : T = at_ I l.val := hT.1 hj
  iapply runs_bind
  iapply runs_bind
  iapply (wait_block c I.w (6 * l.val + j.val) _ _ _ (off7 l j hj) (off8 l j hj) _ _ _ _)
  isplitl [Hf]; · iexact Hf
  isplitl [HO]; · iexact HO
  iintro ⟨Hs, Hw, Hq, HO⟩
  iapply runs_bind
  iapply (load2 c (Memref.whole cc1_scratch0) ![0, 0] inb_S256x3072_S256x3072_0_0 0 0 rfl (at_ I l.val) (at_ I l.val) (by
    intro x y h0 h1
    have : y = x := by
      funext a
      match a with
      | ⟨0, _⟩ => exact Fin.ext (by simpa using h0)
      | ⟨1, _⟩ => exact Fin.ext (by simpa using h1)
    rw [this]; rfl) _)
  isplitl [Ht]; · iexact Ht
  iintro Ht
  iapply runs_bind
  iapply (load_slot c (md (6 * l.val + j.val)) (blkV I.w (6 * l.val + j.val)) _ _ (off10 l j hj) le_rfl _)
  isplitl [Hs]; · iexact Hs
  iintro Hs
  iapply runs_bind
  iapply (load2 c (Memref.whole cc1_scratch3) _ _ 0 (512 * j.val) (off11 l j hj) I.bias (colTile I.bias (6 * l.val + j.val)) (by
    intro x y h0 h1
    show I.bias y = I.bias _
    congr 1
    funext a
    match a with
    | ⟨0, _⟩ => exact Fin.ext (by simpa using h0)
    | ⟨1, _⟩ => exact Fin.ext (by simpa [hm] using h1)) _)
  isplitl [Hb]; · iexact Hb
  iintro Hb
  iapply (runs_pure c _ _)
  dsimp only
  iapply runs_bind
  iapply (runs_load c (Memref.whole cc1_scratch1) _ (f := f) (Finset.subset_univ _) _)
  isplitl [Hc]; · iexact Hc
  iintro Hc
  iapply runs_bind
  iapply (store2 c (Memref.whole cc1_scratch1) (k1_off12 (at' l j)) (k1_off12_inb (at' l j) h4) 0 (512 * j.val) (off12 l j hj) _ f
    (fun f' => CV I l.val j.val f' ∧ ∀ i : S512x3072.Idx, (i 0).val < 256 → (i 1).val < 512 * (j.val + 1) → f' i = packed I (at_ I l.val) l.val i) (by
      have hlt : ∀ i : S512x3072.Idx, (i 1).val < 512 * min j.val 6 ↔ (i 1).val < 512 * j.val := fun i => by omega
      intro f' hin hout
      refine ⟨fun i hi => (hout i (Or.inr (Or.inr (Or.inl ((hlt i).1 hi))))).trans (hf i hi), fun i h0 h1 => ?_⟩
      by_cases hi : (i 1).val < 512 * j.val
      · exact (hout i (Or.inr (Or.inr (Or.inl hi)))).trans (hf i ((hlt i).2 hi))
      · refine (hin (ix2 (⟨(i 0).val, h0⟩ : Fin 256) (⟨(i 1).val % 512, Nat.mod_lt _ (by decide)⟩ : Fin 512)) i ?_ ?_).trans ?_
        · simp
        · simp; omega
        · unfold packed logTile
          rw [dif_pos h0, show 6 * l.val + (i 1).val / 512 = 6 * l.val + j.val by omega]) _)
  isplitl [Hc]; · iexact Hc
  iintro ⟨%f1, %hf1, Hc⟩
  iapply runs_bind
  iapply (runs_load c (Memref.whole cc1_scratch1) _ (f := f1) (Finset.subset_univ _) _)
  isplitl [Hc]; · iexact Hc
  iintro Hc
  iapply runs_bind
  iapply (store2 c (Memref.whole cc1_scratch1) (k1_off13 (at' l j)) (k1_off13_inb (at' l j) h4) 256 (512 * j.val) (off13 l j hj) _ f1
    (CV I l.val (j.val + 1)) (by
      intro f' hin hout i hi
      have hi' : (i 1).val < 512 * (j.val + 1) := by omega
      have h00 := idx2_lt0 i
      by_cases h0 : (i 0).val < 256
      · exact (hout i (Or.inl h0)).trans (hf1.2 i h0 hi')
      by_cases hi2 : (i 1).val < 512 * j.val
      · exact (hout i (Or.inr (Or.inr (Or.inl hi2)))).trans (hf1.1 i (by omega))
      · refine (hin (ix2 (⟨(i 0).val - 256, by omega⟩ : Fin 256) (⟨(i 1).val % 512, Nat.mod_lt _ (by decide)⟩ : Fin 512)) i ?_ ?_).trans ?_
        · simp; omega
        · simp; omega
        · unfold packed cntTile
          rw [dif_neg h0, show 6 * l.val + (i 1).val / 512 = 6 * l.val + j.val by omega]) _)
  isplitl [Hc]; · iexact Hc
  iintro Hc
  have hT' : TV I l.val j.val (at_ I l.val) := ⟨fun _ => rfl, fun h => absurd h (by omega)⟩
  by_cases h5 : 1 ≤ 6 * l.val + j.val
  · ihave Hr3 := (Entails.of_eq (if_neg (by omega : ¬ 6 * l.val + j.val = 0))) $$ Hr3
    rw [dif_pos ((cond5 l j hj).2 h5)]
    by_cases h6 : 6 * l.val + j.val + 3 < 114
    · rw [dif_pos ((cond6 l j hj).2 h6)]
      iapply runs_bind
      iapply (start_block c I.w (6 * l.val + j.val + 3) h6 _ _ _ (off14 l j hj) (off15 l j hj) (off16 l j hj h6) _ _ _ _)
      isplitl [Hr3]; · iexact Hr3
      iintro Hr3
      iapply HQ
      isplitl [Hr1 Hr2 Hr3 Hs Hw Hq]
      · iapply (ring_next c I (6 * l.val + j.val))
        isplitl [Hr1]; · iexact Hr1
        isplitl [Hr2]; · iexact Hr2
        isplitl [Hr3]; · iapply (Entails.of_eq (hold_lt c I.w h6).symm) $$ Hr3
        isplitl [Hs]; · iexists _; iexact Hs
        isplitl [Hq] <;> iassumption
      isplitl [Ht]
      · iexists _; isplitr; · ipureintro; exact hT'
        iexact Ht
      isplitl [Hb]; · iexact Hb
      isplitl [Hc] <;> iassumption
    · rw [dif_neg (fun h => h6 ((cond6 l j hj).1 h))]
      iapply HQ
      isplitl [Hr1 Hr2 Hr3 Hs Hw Hq]
      · iapply (ring_next c I (6 * l.val + j.val))
        isplitl [Hr1]; · iexact Hr1
        isplitl [Hr2]; · iexact Hr2
        isplitl [Hr3]; · iapply (Entails.of_eq (hold_ge c I.w (by omega)).symm) $$ Hr3
        isplitl [Hs]; · iexists _; iexact Hs
        isplitl [Hq] <;> iassumption
      isplitl [Ht]
      · iexists _; isplitr; · ipureintro; exact hT'
        iexact Ht
      isplitl [Hb]; · iexact Hb
      isplitl [Hc] <;> iassumption
  · ihave Hr3 := (Entails.of_eq (if_pos (by omega : 6 * l.val + j.val = 0))) $$ Hr3
    rw [dif_neg (fun h => h5 ((cond5 l j hj).1 h))]
    have e3 : hold c I.w 3 ⊢ hold c I.w (6 * l.val + j.val + 3) := by rw [show 6 * l.val + j.val + 3 = 3 by omega]
    iapply HQ
    isplitl [Hr1 Hr2 Hr3 Hs Hw Hq]
    · iapply (ring_next c I (6 * l.val + j.val))
      isplitl [Hr1]; · iexact Hr1
      isplitl [Hr2]; · iexact Hr2
      isplitl [Hr3]; · iapply e3 $$ Hr3
      isplitl [Hs]; · iexists _; iexact Hs
      isplitl [Hq] <;> iassumption
    isplitl [Ht]
    · iexists _; isplitr; · ipureintro; exact hT'
      iexact Ht
    isplitl [Hb]; · iexact Hb
    isplitl [Hc] <;> iassumption

/-! ## An output tile's step -/

/-- Step `j ≥ 6` of a layer, the mask complete as far as the tile needs it: a tile of the layer's output. -/
theorem step4_tile (l : Fin 19) (j : Fin 12) (hj : 6 ≤ j.val) (n : ℕ) (hn : 2 * (j.val - 5) ≤ n) (k : Code F) (Q : PUnit → sProp 𝕄) :
    iprop(tHas c I l.val j.val ∗ cHas c I l.val j.val ∗ mHas c I n
      ∗ (iprop(tHas c I l.val (j.val + 1) ∗ cHas c I l.val j.val ∗ mHas c I n) -∗ runs c k Q))
    ⊢ runs c (step4 (at' l j) k) Q := by
  have h7 : k1_cond7 (at' l j) = 1#1 := (cond7 l j).2 hj
  have hj2 := j.isLt
  unfold step4
  rw [dif_pos h7, k1_part4_eq_skeleton]
  unfold k1_part4_skel
  iintro ⟨⟨%T, %hT, Ht⟩, ⟨%C, %hC, Hc⟩, ⟨%M, %hM, Hm⟩, HQ⟩
  obtain rfl : C = packed I (at_ I l.val) l.val := by
    funext i; exact hC i (by have := idx2_lt1 i; omega)
  iapply runs_bind
  iapply runs_bind
  iapply (load2 c (Memref.whole cc1_scratch1) ![0, 0] inb_S512x3072_S512x3072_0_0 0 0 rfl (packed I (at_ I l.val) l.val)
    (packed I (at_ I l.val) l.val) (by
    intro x y h0 h1
    have : y = x := by
      funext a
      match a with
      | ⟨0, _⟩ => exact Fin.ext (by simpa using h0)
      | ⟨1, _⟩ => exact Fin.ext (by simpa using h1)
    rw [this]; rfl) _)
  isplitl [Hc]; · iexact Hc
  iintro Hc
  iapply runs_bind
  iapply (load2 c (Memref.whole cc1_scratch2) _ _ (512 * (j.val - 6)) 0 (off17 l j hj) M (rowTile (Mb I) (j.val - 6)) (by
    intro x y h0 h1
    have h00 := idx2_lt0 x
    refine (hM y (by rw [show (y 0).val = _ from h0]; omega)).trans ?_
    show Mb I y = Mb I _
    congr 1
    funext a
    match a with
    | ⟨0, _⟩ => exact Fin.ext (by rw [show ((y ⟨0, by decide⟩).val) = _ from h0]; simp; omega)
    | ⟨1, _⟩ => exact Fin.ext (by simpa using h1)) _)
  isplitl [Hm]; · iexact Hm
  iintro Hm
  iapply runs_bind
  iapply (runs_load c (Memref.whole cc1_scratch0) _ (f := T) (Finset.subset_univ _) _)
  isplitl [Ht]; · iexact Ht
  iintro Ht
  iapply (runs_pure c _ _)
  dsimp only
  iapply runs_bind
  iapply (store2 c (Memref.whole cc1_scratch0) (k1_off18 (at' l j)) (k1_off18_inb (at' l j) h7) 0 (512 * (j.val - 6)) (off18 l j hj) _ T
    (TV I l.val (j.val + 1)) (by
      intro f' hin hout
      refine ⟨fun h => absurd h (by omega), fun _ i hi => ?_⟩
      by_cases hi2 : (i 1).val < 512 * (j.val - 6)
      · exact (hout i (Or.inr (Or.inr (Or.inl hi2)))).trans (hT.2 hj i hi2)
      · refine (hin (ix2 (i 0) (⟨(i 1).val % 512, Nat.mod_lt _ (by decide)⟩ : Fin 512)) i ?_ ?_).trans ?_
        · simp
        · simp; omega
        · show _ = layer I (at_ I l.val) l.val i
          unfold layer outTile
          rw [show (i 1).val / 512 = j.val - 6 by omega]) _)
  isplitl [Ht]; · iexact Ht
  iintro Ht
  iapply HQ
  isplitl [Ht]; · iexact Ht
  isplitl [Hc]
  · iexists _; isplitr; · ipureintro; exact hC
    iexact Hc
  · iexists _; isplitr; · ipureintro; exact hM
    iexact Hm

end Cert.Proof

end
-- ==== Proof.Ends.lean ====
/-
  The first point's transfers, the output weights' and the last point's: what each takes and what it leaves.
-/
module

public import proofs.«01_k».proof.Proof.Layers

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (c : Dev nD) (I : Ins F)

/-- A buffer's transfer into another, both whole. -/
theorem start_copy {sp sp' : Space} {s : Shape} {e : EltTy} (src : Memref sig .tc sp s e) (dst : Memref sig .tc sp' s e)
    (sm : DmaSem sig) {hsrc hdst hsem} (fs : Bf (F := F) c src) (v : Bf (F := F) c dst)
    (hv : ∀ fd : Bf (F := F) c dst, dst.view.write (Elt F) fd (src.view.read (Elt F) fs) Finset.univ = v) (h0 : 0 < s.numel)
    (Q : PUnit → sProp 𝕄) :
    iprop((∃ fd, pt (F := F) c dst fd) ∗ pt c src fs ∗ quiet c sm
      ∗ (flying c sm dst.view.dmaCredit iprop(pt c dst v ∗ pt c src fs) -∗ Q ⟨⟩))
    ⊢ runs c (Prog.lift (.enqueueDma src (.here dst) (.dma sm) hsrc hdst hsem)) Q := by
  iintro ⟨⟨%fd, Hd⟩, Hs, Hq, HQ⟩
  iapply (runs_start c src dst sm (q := fullShare) (fs := fs) (fd := fd) Finset.univ (Finset.subset_univ _) h0
    iprop(pt c dst v ∗ pt c src fs) Q (by rw [hv fd]))
  isplitl [Hs]; · iexact Hs
  isplitl [Hd]; · iexact Hd
  isplitl [Hq] <;> iassumption

/-- The first layer's input and the bias, at home. -/
abbrev home : sProp 𝕄 :=
  iprop(pt c (Memref.whole main_v4_0) I.t0 ∗ quiet c (isem ![0] inb_S4_S1_0) ∗ pt c (Memref.whole main_v4_1) I.bias ∗ quiet c (isem ![1] inb_S4_S1_1))
/-- The channel term at home, its buffer holding anything; -/
abbrev restL : sProp 𝕄 :=
  iprop((∃ f, pt (F := F) c (Memref.whole cc1_scratch5) f) ∗ pt c (Memref.whole main_v4_2) I.lm ∗ quiet c (isem ![3] inb_S4_S1_3))
/-- in flight. -/
abbrev flyL : sProp 𝕄 :=
  flying c (isem ![3] inb_S4_S1_3) (Memref.whole cc1_scratch5).view.dmaCredit
    iprop(pt (F := F) c (Memref.whole cc1_scratch5) I.lm ∗ pt c (Memref.whole main_v4_2) I.lm)

set_option maxHeartbeats 2000000 in
/-- The first point: the layer buffer and the bias brought in; the channel term, the mask's first chunk and four weight
    blocks started. -/
theorem step1_first (k : Code F) (Q : PUnit → sProp 𝕄) :
    iprop(home c I ∗ tBuf c ∗ (∃ f, pt (F := F) c (Memref.whole cc1_scratch3) f) ∗ restM c I ∗ restL c I
      ∗ restS c I.w 0 ∗ restS c I.w 1 ∗ restS c I.w 2 ∗ restS c I.w 3 ∗ idle c
      ∗ (iprop(home c I ∗ tHas c I 0 0 ∗ bHas c I ∗ flyM c I 0 ∗ flyL c I ∗ ring c I 0 ∗ idle c) -∗ runs c k Q))
    ⊢ runs c (step1 (at' 0 0) k) Q := by
  have h1 : k1_cond1 (at' 0 0) = 1#1 := (cond1 0 0).2 ⟨rfl, rfl⟩
  have hr0 : ring c I 0 = iprop(flyS c I.w 0 ∗ flyS c I.w 1 ∗ flyS c I.w 2 ∗ flyS c I.w 3) := by
    unfold ring
    rw [if_pos rfl, hold_lt c I.w (by decide : 0 < 114), hold_lt c I.w (by decide : 0 + 1 < 114), hold_lt c I.w (by decide : 0 + 2 < 114),
      hold_lt c I.w (by decide : 3 < 114)]
  unfold step1
  rw [dif_pos h1, k1_part1_eq_skeleton, k1_part2_eq_skeleton]
  unfold k1_part1_skel k1_part2_skel
  iintro ⟨⟨Ht0, Hq0, Hb0, Hq1⟩, Ht, Hb, Hm, ⟨Hl, Hl0, Hql⟩, Hs0, Hs1, Hs2, Hs3, HO, HQ⟩
  iapply runs_bind
  iapply runs_bind
  iapply (start_copy c (Memref.whole main_v4_0) (Memref.whole cc1_scratch0) (isem ![0] inb_S4_S1_0) I.t0 I.t0 (fun fd => write_whole (F := F) cc1_scratch0 fd I.t0) (by decide))
  isplitl [Ht]; · iexact Ht
  isplitl [Ht0]; · iexact Ht0
  isplitl [Hq0]; · iexact Hq0
  iintro Hft
  iapply runs_bind
  iapply (start_copy c (Memref.whole main_v4_1) (Memref.whole cc1_scratch3) (isem ![1] inb_S4_S1_1) I.bias I.bias (fun fd => write_whole (F := F) cc1_scratch3 fd I.bias) (by decide))
  isplitl [Hb]; · iexact Hb
  isplitl [Hb0]; · iexact Hb0
  isplitl [Hq1]; · iexact Hq1
  iintro Hfb
  iapply runs_bind
  iapply (start_copy c (Memref.whole main_v4_2) (Memref.whole cc1_scratch5) (isem ![3] inb_S4_S1_3) I.lm I.lm (fun fd => write_whole (F := F) cc1_scratch5 fd I.lm) (by decide))
  isplitl [Hl]; · iexact Hl
  isplitl [Hl0]; · iexact Hl0
  isplitl [Hql]; · iexact Hql
  iintro Hfl
  iapply runs_bind
  iapply (start_chunk c I 0 (by decide) _ rfl _ _)
  isplitl [Hm]; · iexact Hm
  iintro Hfm
  iapply runs_bind
  iapply (start_block c I.w 0 (by decide) _ _ _ (by decide +kernel) (by decide +kernel) (by decide +kernel) _ _ _ _)
  isplitl [Hs0]; · iexact Hs0
  iintro Hf0
  iapply (runs_pure c _ _)
  dsimp only
  iapply runs_bind
  iapply runs_bind
  iapply (start_block c I.w 1 (by decide) _ _ _ (by decide +kernel) (by decide +kernel) (by decide +kernel) _ _ _ _)
  isplitl [Hs1]; · iexact Hs1
  iintro Hf1
  iapply runs_bind
  iapply (start_block c I.w 2 (by decide) _ _ _ (by decide +kernel) (by decide +kernel) (by decide +kernel) _ _ _ _)
  isplitl [Hs2]; · iexact Hs2
  iintro Hf2
  iapply runs_bind
  iapply (start_block c I.w 3 (by decide) _ _ _ (by decide +kernel) (by decide +kernel) (by decide +kernel) _ _ _ _)
  isplitl [Hs3]; · iexact Hs3
  iintro Hf3
  iapply runs_bind
  iapply (runs_wait c _ _ _ _ rfl _ _)
  isplitl [Hft]; · iexact Hft
  isplitl [HO]; · iexact HO
  iintro ⟨⟨Ht, Ht0⟩, Hq0, HO⟩
  iapply (runs_pure c _ _)
  iapply runs_bind
  iapply (runs_wait c _ _ _ _ rfl _ _)
  isplitl [Hfb]; · iexact Hfb
  isplitl [HO]; · iexact HO
  iintro ⟨⟨Hb, Hb0⟩, Hq1, HO⟩
  iapply HQ
  isplitl [Ht0 Hq0 Hb0 Hq1]
  · isplitl [Ht0]; · iexact Ht0
    isplitl [Hq0]; · iexact Hq0
    isplitl [Hb0] <;> iassumption
  isplitl [Ht]
  · iexists _
    isplitr; swap; · iexact Ht
    ipureintro
    exact ⟨fun _ => rfl, fun h => absurd h (by decide)⟩
  isplitl [Hb]; · iexact Hb
  isplitl [Hfm]; · iexact Hfm
  isplitl [Hfl]; · iexact Hfl
  isplitr [HO]; swap; · iexact HO
  iapply (Entails.of_eq hr0.symm)
  isplitl [Hf0]; · iexact Hf0
  isplitl [Hf1]; · iexact Hf1
  isplitl [Hf2] <;> iassumption

/-! ## The output weights -/

/-- A row of the half slot is that row of the slot. -/
theorem emb_half (b : Fin 256) (d : Fin 3072) :
    (slotM 1).view.emb (ix2 (Fin.castLE (by decide : 256 ≤ 512) b) d)
      = (slotH ![1, 0, 0] inb_S4x512x3072_S1x256x3072_1_0_0).view.emb (ix2 b d) := by
  show (Rect.unit (s := S4x512x3072) ![1, 0, 0] S1x512x3072.size (inb_slot 1)).emb (Shape.reshapeEquiv _ (ix2 (Fin.castLE _ b) d))
    = (Rect.unit (s := S4x512x3072) ![1, 0, 0] S1x256x3072.size inb_S4x512x3072_S1x256x3072_1_0_0).emb (Shape.reshapeEquiv _ (ix2 b d))
  rw [reshapeEquiv_ix2_1ab, reshapeEquiv_ix2_1ab]
  funext k
  match k with
  | ⟨0, _⟩ => rfl
  | ⟨1, _⟩ => rfl
  | ⟨2, _⟩ => rfl

theorem set_half : (slotH ![1, 0, 0] inb_S4x512x3072_S1x256x3072_1_0_0).view.set ⊆ (slotM 1).view.set := by
  intro y hy
  obtain ⟨x, -, rfl⟩ := Finset.mem_map.mp hy
  obtain ⟨b, d, rfl⟩ : ∃ (b : Fin 256) (d : Fin 3072), x = ix2 b d := ⟨x 0, x 1, eq_ix2 x⟩
  exact Finset.mem_map.mpr ⟨ix2 (Fin.castLE (by decide) b) d, Finset.mem_univ _, emb_half b d⟩

theorem read_woLo : ((Memref.whole main_arg2).slice (Rect.unit (s := S768x3072) ![0, 0] S512x3072.size inb_S768x3072_S512x3072_0_0) (fun _ => rfl)).view.read (Elt F) I.wo
    = woLo I := by
  funext x
  refine (read_rect2 (F := F) (Memref.whole main_arg2) I.wo _ inb_S768x3072_S512x3072_0_0 x).trans ?_
  show I.wo _ = I.wo _
  congr 1
  funext a
  match a with
  | ⟨0, _⟩ => exact Fin.ext (by show 0 + (x 0).val = (x 0).val; omega)
  | ⟨1, _⟩ => exact Fin.ext (by show 0 + (x 1).val = (x 1).val; omega)

theorem read_woHi : ((Memref.whole main_arg2).slice (Rect.unit (s := S768x3072) ![512, 0] S256x3072.size inb_S768x3072_S256x3072_512_0) (fun _ => rfl)).view.read (Elt F) I.wo
    = woHi I := by
  funext x
  refine (read_rect2 (F := F) (Memref.whole main_arg2) I.wo _ inb_S768x3072_S256x3072_512_0 x).trans ?_
  show I.wo _ = I.wo _
  congr 1
  funext a
  match a with
  | ⟨0, _⟩ => rfl
  | ⟨1, _⟩ => exact Fin.ext (by show 0 + (x 1).val = (x 1).val; omega)

/-- The output weights at share `q`. -/
abbrev oTok (q : PosShare TreeShare) : sProp 𝕄 := (Memref.whole main_arg2).view.loc (c : Thread nD τ) ↦{q} (I.wo : Bf (F := F) c (Memref.whole main_arg2))
/-- Slot 1 with the last 256 output weights on its first rows. -/
abbrev slotHi : sProp 𝕄 :=
  iprop(∃ X : S512x3072.Idx → F .f32, ⌜∀ (b : Fin 256) (d : Fin 3072), X (ix2 (Fin.castLE (by decide : 256 ≤ 512) b) d) = woHi I (ix2 b d)⌝ ∗ slotHas c 1 X)
/-- The output weights in flight to slots 0 and 1. -/
abbrev flyO : sProp 𝕄 :=
  iprop(flying c (wsem 0) (slotM 0).view.dmaCredit iprop(slotHas c 0 (woLo I) ∗ oTok c I (shareTokN fullShare 0))
    ∗ flying c (wsem 1) (slotH ![1, 0, 0] inb_S4x512x3072_S1x256x3072_1_0_0).view.dmaCredit iprop(slotHi c I ∗ oTok c I (shareTokN fullShare 1))
    ∗ oTok c I (shareDrop fullShare 2))
/-- A slot's contents and its semaphore, at rest. -/
abbrev restQ (s : Fin 4) : sProp 𝕄 := iprop((∃ X, slotHas (F := F) c s X) ∗ quiet c (wsem s))

theorem last6_iff : ∀ (l : Fin 19) (j : Fin 12), (last6 (at' l j) = 1#1 ↔ l.val = 18 ∧ j.val = 6) := by decide +kernel
theorem last11_iff : ∀ (l : Fin 19) (j : Fin 12), (last11 (at' l j) = 1#1 ↔ l.val = 18 ∧ j.val = 11) := by decide +kernel

/-- The output weights' share, dealt to the two transfers. -/
theorem wo_split : oTok c I fullShare ⊣⊢ iprop(oTok c I (shareDrop fullShare 2) ∗ oTok c I (shareTokN fullShare 0) ∗ oTok c I (shareTokN fullShare 1)) := by
  refine (pointsTo_toks (Val := Elt F) (Lvl := ℕ) (Ix := Unit) (U := UU nD τ) (ℓ := (Memref.whole main_arg2).view.loc (c : Thread nD τ))
    (S := Finset.univ) (f := (I.wo : Bf (F := F) c (Memref.whole main_arg2))) fullShare 2).trans ?_
  rw [show BI.bigSep Finset.univ (fun i : Fin 2 => oTok c I (shareTok fullShare 2 i)) = iprop(oTok c I (shareTokN fullShare 0) ∗ oTok c I (shareTokN fullShare 1))
    from bigSep_univ_eq_bigSepL [(0 : Fin 2), (1 : Fin 2)] (by decide) (by decide) _]

set_option maxHeartbeats 2000000 in
/-- Step 6 of the last layer: the output weights started into slots 0 and 1. -/
theorem step5_last (k : Code F) (Q : PUnit → sProp 𝕄) :
    iprop(restQ c 0 ∗ restQ c 1 ∗ oTok c I fullShare ∗ (flyO c I -∗ runs c k Q))
    ⊢ runs c (step5 (at' 18 6) k) Q := by
  unfold step5
  rw [if_pos ((last6_iff 18 6).2 ⟨rfl, rfl⟩)]
  unfold restQ slotHas owns
  iintro ⟨⟨⟨%X0, %f0, -, H0⟩, Hq0⟩, ⟨⟨%X1, %f1, -, H1⟩, Hq1⟩, Hw, HQ⟩
  ihave Hw := (wo_split c I).1 $$ Hw
  icases Hw with ⟨Hw, Hw0, Hw1⟩
  iapply runs_bind
  iapply (runs_start c _ (slotM 0) (wsem 0) (q := shareTokN fullShare 0) (fs := I.wo) (fd := f0)
    (slotM 0).view.set (Finset.Subset.refl _) (by decide) iprop(slotHas c 0 (woLo I) ∗ oTok c I (shareTokN fullShare 0)) _ (by
      unfold slotHas owns
      iintro ⟨Hd, Hw⟩
      isplitl [Hd]
      · iexists _
        isplitr; swap; · iexact Hd
        ipureintro
        rw [View.read_write_univ, read_woLo I]
      · iexact Hw))
  isplitl [Hw0]; · iexact Hw0
  isplitl [H0]; · iexact H0
  isplitl [Hq0]; · iexact Hq0
  iintro Hf0
  iapply runs_bind
  iapply (runs_start c _ (slotH ![1, 0, 0] inb_S4x512x3072_S1x256x3072_1_0_0) (wsem 1) (q := shareTokN fullShare 1) (fs := I.wo) (fd := f1)
    (slotM 1).view.set set_half (by decide) iprop(slotHi c I ∗ oTok c I (shareTokN fullShare 1)) _ (by
      unfold slotHi slotHas owns
      iintro ⟨Hd, Hw⟩
      isplitl [Hd]
      · iexists _
        isplitr; swap
        · iexists _
          isplitr; swap; · iexact Hd
          ipureintro
          rfl
        ipureintro
        intro b d
        have e := congrFun (View.read_write_univ (v := (slotH ![1, 0, 0] inb_S4x512x3072_S1x256x3072_1_0_0).view) f1 (woHi I)) (ix2 b d)
        rw [read_woHi I]
        refine Eq.trans ?_ e
        rw [View.read_apply, View.read_apply, emb_half b d]
      · iexact Hw))
  isplitl [Hw1]; · iexact Hw1
  isplitl [H1]; · iexact H1
  isplitl [Hq1]; · iexact Hq1
  iintro Hf1
  iapply HQ
  isplitl [Hf0]; · iexact Hf0
  isplitl [Hf1] <;> iassumption

/-! ## The last point -/

set_option maxHeartbeats 4000000 in
/-- The last point: the output weights and the channel term waited for, the result computed and sent out. -/
theorem step6_last (k : Code F) (Q : PUnit → sProp 𝕄) :
    iprop(tHas c I 18 12 ∗ flyO c I ∗ flyL c I ∗ (∃ f, pt (F := F) c (Memref.whole cc1_scratch6) f)
      ∗ (∃ f, pt (F := F) c (Memref.whole main_v5) f) ∗ quiet c cc1_scratch10.sem ∗ idle c
      ∗ (iprop(tHas c I 18 12 ∗ restQ c 0 ∗ restQ c 1 ∗ oTok c I fullShare ∗ restL c I ∗ (∃ f, pt (F := F) c (Memref.whole cc1_scratch6) f)
          ∗ pt c (Memref.whole main_v5) (result I (at_ I 19)) ∗ quiet c cc1_scratch10.sem ∗ idle c) -∗ runs c k Q))
    ⊢ runs c (step6 (at' 18 11) k) Q := by
  unfold step6
  rw [if_pos ((last11_iff 18 11).2 ⟨rfl, rfl⟩), k1_part5_eq_skeleton]
  unfold k1_part5_skel
  iintro ⟨⟨%T, %hT, Ht⟩, ⟨Hf0, Hf1, Hw⟩, Hfl, ⟨%fo, Ho⟩, Hv5, Hq, HO, HQ⟩
  obtain rfl : T = at_ I 19 := by
    funext i; exact hT.2 (by decide) i (by have := idx2_lt1 i; omega)
  iapply runs_bind
  iapply runs_bind
  iapply (runs_wait c _ _ _ _ rfl _ _)
  isplitl [Hf0]; · iexact Hf0
  isplitl [HO]; · iexact HO
  iintro ⟨⟨H0, Hw0⟩, Hq0, HO⟩
  iapply runs_bind
  iapply (runs_wait c _ _ _ _ rfl _ _)
  isplitl [Hf1]; · iexact Hf1
  isplitl [HO]; · iexact HO
  iintro ⟨⟨⟨%X, %hX, H1⟩, Hw1⟩, Hq1, HO⟩
  iapply runs_bind
  iapply (runs_wait c _ _ _ _ rfl _ _)
  isplitl [Hfl]; · iexact Hfl
  isplitl [HO]; · iexact HO
  iintro ⟨⟨Hl, Hl0⟩, Hql, HO⟩
  iapply runs_bind
  iapply (load2 c (Memref.whole cc1_scratch0) ![0, 0] inb_S256x3072_S256x3072_0_0 0 0 rfl (at_ I 19) (at_ I 19) (by
    intro x y h0 h1
    have : y = x := by
      funext a
      match a with
      | ⟨0, _⟩ => exact Fin.ext (by simpa using h0)
      | ⟨1, _⟩ => exact Fin.ext (by simpa using h1)
    rw [this]; rfl) _)
  isplitl [Ht]; · iexact Ht
  iintro Ht
  iapply runs_bind
  iapply (load_slot c 0 (woLo I) ![0, 0, 0] inb_S4x512x3072_S1x512x3072_0_0_0 rfl le_rfl _)
  isplitl [H0]; · iexact H0
  iintro H0
  iapply runs_bind
  iapply (load_slot c 1 X ![1, 0, 0] inb_S4x512x3072_S1x256x3072_1_0_0 rfl (by decide : 256 ≤ 512) _)
  isplitl [H1]; · iexact H1
  iintro H1
  rw [show rows3 (by decide : 256 ≤ 512) X = lead (woHi I) from by
    funext x; exact hX (x 1) (x 2)]
  iapply runs_bind
  iapply (load2 c (Memref.whole cc1_scratch5) ![0, 0] inb_S256x768_S256x512_0_0 0 0 rfl I.lm (lmLo I) (by
    intro x y h0 h1
    show I.lm y = I.lm _
    congr 1
    funext a
    match a with
    | ⟨0, _⟩ => exact Fin.ext (by simpa using h0)
    | ⟨1, _⟩ => exact Fin.ext (by simpa using h1)) _)
  isplitl [Hl]; · iexact Hl
  iintro Hl
  iapply runs_bind
  iapply (runs_load c (Memref.whole cc1_scratch6) _ (f := fo) (Finset.subset_univ _) _)
  isplitl [Ho]; · iexact Ho
  iintro Ho
  iapply runs_bind
  iapply (store2 c (Memref.whole cc1_scratch6) ![0, 0] inb_S256x768_S256x512_0_0 0 0 rfl _ fo
    (fun f' => ∀ i : S256x768.Idx, (i 1).val < 512 → f' i = result I (at_ I 19) i) (by
      intro f' hin _ i hi
      refine (hin (ix2 (i 0) (⟨(i 1).val, hi⟩ : Fin 512)) i (by simp) (by simp)).trans ?_
      unfold result
      rw [dif_pos hi]; rfl) _)
  isplitl [Ho]; · iexact Ho
  iintro ⟨%f1, %hf1, Ho⟩
  iapply runs_bind
  iapply (load2 c (Memref.whole cc1_scratch5) ![0, 512] inb_S256x768_S256x256_0_512 0 512 rfl I.lm (lmHi I) (by
    intro x y h0 h1
    show I.lm y = I.lm _
    congr 1
    funext a
    match a with
    | ⟨0, _⟩ => exact Fin.ext (by simpa using h0)
    | ⟨1, _⟩ => exact Fin.ext (by simpa using h1)) _)
  isplitl [Hl]; · iexact Hl
  iintro Hl
  iapply (runs_pure c _ _)
  dsimp only
  iapply runs_bind
  iapply (runs_load c (Memref.whole cc1_scratch6) _ (f := f1) (Finset.subset_univ _) _)
  isplitl [Ho]; · iexact Ho
  iintro Ho
  iapply runs_bind
  iapply (store2 c (Memref.whole cc1_scratch6) ![0, 512] inb_S256x768_S256x256_0_512 0 512 rfl _ f1
    (fun f' => f' = result I (at_ I 19)) (by
      intro f' hin hout
      funext i
      by_cases hi : (i 1).val < 512
      · exact (hout i (Or.inr (Or.inr (Or.inl hi)))).trans (hf1 i hi)
      · refine (hin (ix2 (i 0) (⟨(i 1).val - 512, by have := idx2_lt1 i; omega⟩ : Fin 256)) i (by simp) (by simp; omega)).trans ?_
        unfold result
        rw [dif_neg hi]) _)
  isplitl [Ho]; · iexact Ho
  iintro ⟨%f2, %hf2, Ho⟩
  subst hf2
  iapply runs_bind
  iapply (start_copy c (Memref.whole cc1_scratch6) (Memref.whole main_v5) cc1_scratch10.sem (result I (at_ I 19)) (result I (at_ I 19))
    (fun fd => write_whole (F := F) main_v5 fd (result I (at_ I 19))) (by decide))
  isplitl [Hv5]; · iexact Hv5
  isplitl [Ho]; · iexact Ho
  isplitl [Hq]; · iexact Hq
  iintro Hf
  iapply runs_bind
  iapply (runs_wait c _ _ _ _ rfl _ _)
  isplitl [Hf]; · iexact Hf
  isplitl [HO]; · iexact HO
  iintro ⟨⟨Hv5, Ho⟩, Hq, HO⟩
  iapply HQ
  isplitl [Ht]
  · iexists _; isplitr; · ipureintro; exact hT
    iexact Ht
  isplitl [H0 Hq0]
  · isplitl [H0]; · iexists _; iexact H0
    iexact Hq0
  isplitl [H1 Hq1]
  · isplitl [H1]; · iexists _; iexact H1
    iexact Hq1
  isplitl [Hw Hw0 Hw1]
  · iapply (wo_split c I).2
    isplitl [Hw]; · iexact Hw
    isplitl [Hw0] <;> iassumption
  isplitl [Hl Hl0 Hql]
  · isplitl [Hl]; · iexists _; iexact Hl
    isplitl [Hl0] <;> iassumption
  isplitl [Ho]; · iexists _; iexact Ho
  isplitl [Hv5]; · iexact Hv5
  isplitl [Hq] <;> iassumption

end Cert.Proof

end
-- ==== Proof.Point.lean ====
/-
  The layers at a grid point: what is held between points, and the body taking it from one point to the next.
-/
module

public import proofs.«01_k».proof.Proof.Ends

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (c : Dev nD) (I : Ins F)

/-- What is left of the weights' share beside the four slots'. -/
abbrev wDrop : sProp 𝕄 := (Memref.whole main_arg1).view.loc (c : Thread nD τ) ↦{shareDrop fullShare 4} (I.w : Bf (F := F) c (Memref.whole main_arg1))

/-- The mask before step `j` of layer `l`: arriving chunk by chunk in layer 0, complete and at rest after. -/
def mPart (l j : ℕ) : sProp 𝕄 :=
  if l = 0 ∧ j < 12 then iprop(flyM c I j ∗ mHas c I j) else iprop(restM c I ∗ mHas c I 12)
/-- The ring and the output weights: the ring before the next block, and the output weights at home until layer 18's
    step 6 sends them to slots 0 and 1. -/
def kPart (l j : ℕ) : sProp 𝕄 :=
  if l = 18 ∧ 7 ≤ j then iprop(flyO c I ∗ wTok c I.w 0 ∗ wTok c I.w 1 ∗ restS c I.w 2 ∗ restS c I.w 3)
  else iprop(ring c I (6 * l + min j 6) ∗ oTok c I fullShare)
/-- The result's buffers before the last point. -/
abbrev tail : sProp 𝕄 :=
  iprop((∃ f, pt (F := F) c (Memref.whole cc1_scratch6) f) ∗ (∃ f, pt (F := F) c (Memref.whole main_v5) f) ∗ quiet c cc1_scratch10.sem)
/-- What is held before step `j` of layer `l`. -/
abbrev mid (l j : ℕ) : sProp 𝕄 :=
  iprop(home c I ∗ wDrop c I ∗ mPart c I l j ∗ tHas c I l j ∗ bHas c I ∗ cHas c I l j ∗ kPart c I l j ∗ flyL c I ∗ tail c)
/-- What is held before the first point and after the last, the result's array beside. -/
abbrev ends : sProp 𝕄 :=
  iprop(home c I ∗ wDrop c I ∗ restM c I ∗ tBuf c ∗ (∃ f, pt (F := F) c (Memref.whole cc1_scratch3) f)
    ∗ (∃ f, pt (F := F) c (Memref.whole cc1_scratch1) f) ∗ (∃ f, pt (F := F) c (Memref.whole cc1_scratch2) f)
    ∗ restS c I.w 0 ∗ restS c I.w 1 ∗ restS c I.w 2 ∗ restS c I.w 3 ∗ oTok c I fullShare ∗ restL c I
    ∗ (∃ f, pt (F := F) c (Memref.whole cc1_scratch6) f) ∗ quiet c cc1_scratch10.sem)

theorem mPart_lt {l j : ℕ} (h : l = 0 ∧ j < 12) : mPart c I l j = iprop(flyM c I j ∗ mHas c I j) := if_pos h
theorem mPart_ge {l j : ℕ} (h : ¬ (l = 0 ∧ j < 12)) : mPart c I l j = iprop(restM c I ∗ mHas c I 12) := if_neg h
theorem kPart_wo {l j : ℕ} (h : l = 18 ∧ 7 ≤ j) :
    kPart c I l j = iprop(flyO c I ∗ wTok c I.w 0 ∗ wTok c I.w 1 ∗ restS c I.w 2 ∗ restS c I.w 3) := if_pos h
theorem kPart_ring {l j : ℕ} (h : ¬ (l = 18 ∧ 7 ≤ j)) : kPart c I l j = iprop(ring c I (6 * l + min j 6) ∗ oTok c I fullShare) := if_neg h

/-- The ring when no block is left. -/
theorem ring_last : ring c I (6 * 18 + min 6 6) ⊢ iprop(restS c I.w 0 ∗ restS c I.w 1 ∗ restS c I.w 2 ∗ restS c I.w 3) := by
  have e : ring c I (6 * 18 + min 6 6) = iprop(restS c I.w 2 ∗ restS c I.w 3 ∗ restS c I.w 0 ∗ restS c I.w 1) := by
    unfold ring
    rw [hold_ge c I.w (by decide : 114 ≤ 6 * 18 + min 6 6), hold_ge c I.w (by decide : 114 ≤ 6 * 18 + min 6 6 + 1),
      hold_ge c I.w (by decide : 114 ≤ 6 * 18 + min 6 6 + 2), if_neg (by decide)]
    rfl
  rw [e]
  iintro ⟨H2, H3, H0, H1⟩
  isplitl [H0]; · iexact H0
  isplitl [H1]; · iexact H1
  isplitl [H2] <;> iassumption

/-- Step 2 at any point. -/
theorem mask_step (l : Fin 19) (j : Fin 12) (k : Code F) (Q : PUnit → sProp 𝕄) :
    iprop(mPart c I l.val j.val ∗ idle c ∗ (iprop(mPart c I l.val (j.val + 1) ∗ idle c) -∗ runs c k Q))
    ⊢ runs c (step2 (at' l j) k) Q := by
  have hj := j.isLt
  by_cases hl : l.val = 0
  · obtain rfl : l = 0 := Fin.ext hl
    rw [mPart_lt c I (show ((0 : Fin 19).val = 0 ∧ j.val < 12) from ⟨rfl, hj⟩)]
    iintro ⟨⟨Hf, Hm⟩, HO, HQ⟩
    iapply (step2_first c I j k Q)
    isplitl [Hf]; · iexact Hf
    isplitl [Hm]; · iexact Hm
    isplitl [HO]; · iexact HO
    iintro ⟨Hf, Hm, HO⟩
    iapply HQ
    isplitr [HO]; swap; · iexact HO
    by_cases h : j.val < 11
    · iapply (Entails.of_eq (mPart_lt c I (show ((0 : Fin 19).val = 0 ∧ j.val + 1 < 12) from ⟨rfl, by omega⟩)).symm)
      isplitl [Hf]; · iapply (Entails.of_eq (if_pos h)) $$ Hf
      iexact Hm
    · iapply (Entails.of_eq (mPart_ge c I (show ¬ ((0 : Fin 19).val = 0 ∧ j.val + 1 < 12) by omega)).symm)
      isplitl [Hf]; · iapply (Entails.of_eq (if_neg h)) $$ Hf
      rw [show j.val + 1 = 12 by omega]
      iexact Hm
  · have e : step2 (F := F) (at' l j) k = k := by
      unfold step2; exact dif_neg fun h => hl ((cond2 l j).1 h)
    rw [e, mPart_ge c I (show ¬ (l.val = 0 ∧ j.val < 12) from fun h => hl h.1), mPart_ge c I (show ¬ (l.val = 0 ∧ j.val + 1 < 12) from fun h => hl h.1)]
    iintro ⟨Hm, HO, HQ⟩
    iapply HQ
    isplitl [Hm] <;> iassumption

/-- The steps a point skips. -/
theorem skip1 (l : Fin 19) (j : Fin 12) (h : ¬ (l.val = 0 ∧ j.val = 0)) (k : Code F) : step1 (at' l j) k = k := by
  unfold step1; exact dif_neg fun hh => h ((cond1 l j).1 hh)
theorem skip3 (l : Fin 19) (j : Fin 12) (h : 6 ≤ j.val) (k : Code F) : step3 (at' l j) k = k := by
  unfold step3; exact dif_neg fun hh => absurd ((cond4 l j).1 hh) (by omega)
theorem skip4 (l : Fin 19) (j : Fin 12) (h : j.val < 6) (k : Code F) : step4 (at' l j) k = k := by
  unfold step4; exact dif_neg fun hh => absurd ((cond7 l j).1 hh) (by omega)
theorem skip5 (l : Fin 19) (j : Fin 12) (h : ¬ (l.val = 18 ∧ j.val = 6)) (k : Code F) : step5 (at' l j) k = k := by
  unfold step5; exact if_neg fun hh => h ((last6_iff l j).1 hh)
theorem skip6 (l : Fin 19) (j : Fin 12) (h : ¬ (l.val = 18 ∧ j.val = 11)) (k : Code F) : step6 (at' l j) k = k := by
  unfold step6; exact if_neg fun hh => h ((last11_iff l j).1 hh)

/-- Step 3 in a layer's first half, on the ring's part. -/
theorem block_step (l : Fin 19) (j : Fin 12) (hj : j.val < 6) (k : Code F) (Q : PUnit → sProp 𝕄) :
    iprop(kPart c I l.val j.val ∗ tHas c I l.val j.val ∗ bHas c I ∗ cHas c I l.val j.val ∗ idle c
      ∗ (iprop(kPart c I l.val (j.val + 1) ∗ tHas c I l.val (j.val + 1) ∗ bHas c I ∗ cHas c I l.val (j.val + 1) ∗ idle c) -∗ runs c k Q))
    ⊢ runs c (step3 (at' l j) k) Q := by
  rw [kPart_ring c I (show ¬ (l.val = 18 ∧ 7 ≤ j.val) by omega), kPart_ring c I (show ¬ (l.val = 18 ∧ 7 ≤ j.val + 1) by omega),
    show min j.val 6 = j.val by omega, show min (j.val + 1) 6 = j.val + 1 by omega]
  iintro ⟨⟨Hr, Ho⟩, Ht, Hb, Hc, HO, HQ⟩
  iapply (step3_block c I l j hj k Q)
  isplitl [Hr]; · iexact Hr
  isplitl [Ht]; · iexact Ht
  isplitl [Hb]; · iexact Hb
  isplitl [Hc]; · iexact Hc
  isplitl [HO]; · iexact HO
  iintro ⟨Hr, ⟨%f, %hf, Ht⟩, Hb, Hc, HO⟩
  iapply HQ
  isplitl [Hr Ho]
  · isplitl [Hr]; · iexact Hr
    iexact Ho
  isplitl [Ht]
  · iexists f
    isplitr; swap; · iexact Ht
    ipureintro
    exact ⟨fun _ => hf.1 hj, fun h6 i hi => absurd hi (by omega)⟩
  isplitl [Hb]; · iexact Hb
  isplitl [Hc] <;> iassumption

/-- Steps 4 and 5 in a layer's second half, on the ring's part. -/
theorem tile_step (l : Fin 19) (j : Fin 12) (hj : 6 ≤ j.val) (k : Code F) (Q : PUnit → sProp 𝕄) :
    iprop(kPart c I l.val j.val ∗ tHas c I l.val j.val ∗ cHas c I l.val j.val ∗ mPart c I l.val (j.val + 1)
      ∗ (iprop(kPart c I l.val (j.val + 1) ∗ tHas c I l.val (j.val + 1) ∗ cHas c I l.val (j.val + 1) ∗ mPart c I l.val (j.val + 1)) -∗ runs c k Q))
    ⊢ runs c (step4 (at' l j) (step5 (at' l j) k)) Q := by
  have hj2 := j.isLt
  have hm : mPart c I l.val (j.val + 1) ⊢ iprop(∃ n, ⌜2 * (j.val - 5) ≤ n⌝ ∗ mHas c I n ∗ (mHas c I n -∗ mPart c I l.val (j.val + 1))) := by
    by_cases h : l.val = 0 ∧ j.val + 1 < 12
    · rw [mPart_lt c I h]
      iintro ⟨Hf, Hm⟩
      iexists _
      isplitr; · ipureintro; exact (by omega : 2 * (j.val - 5) ≤ j.val + 1)
      isplitl [Hm]; · iexact Hm
      iintro Hm
      isplitl [Hf] <;> iassumption
    · rw [mPart_ge c I h]
      iintro ⟨Hf, Hm⟩
      iexists _
      isplitr; · ipureintro; exact (by omega : 2 * (j.val - 5) ≤ 12)
      isplitl [Hm]; · iexact Hm
      iintro Hm
      isplitl [Hf] <;> iassumption
  have hc : cHas c I l.val j.val ⊢ cHas c I l.val (j.val + 1) := by
    iintro ⟨%f, %hf, Hc⟩
    iexists f
    isplitr; swap; · iexact Hc
    ipureintro
    intro i hi
    exact hf i (by omega)
  iintro ⟨Hk, Ht, Hc, Hm, HQ⟩
  ihave Hm := hm $$ Hm
  icases Hm with ⟨%n, %hn, Hm, Hback⟩
  iapply (step4_tile c I l j hj n hn _ Q)
  isplitl [Ht]; · iexact Ht
  isplitl [Hc]; · iexact Hc
  isplitl [Hm]; · iexact Hm
  iintro ⟨Ht, Hc, Hm⟩
  ihave Hm := Hback $$ Hm
  ihave Hc := hc $$ Hc
  by_cases h : l.val = 18 ∧ j.val = 6
  · obtain rfl : l = 18 := Fin.ext h.1
    obtain rfl : j = 6 := Fin.ext h.2
    ihave Hk := (Entails.of_eq (kPart_ring c I (show ¬ ((18 : Fin 19).val = 18 ∧ 7 ≤ (6 : Fin 12).val) from by decide))) $$ Hk
    icases Hk with ⟨Hr, Ho⟩
    ihave Hr := (show ring c I (6 * (18 : Fin 19).val + min (6 : Fin 12).val 6) ⊢ _ from ring_last c I) $$ Hr
    icases Hr with ⟨⟨H0, Hq0, Hw0⟩, ⟨H1, Hq1, Hw1⟩, H2, H3⟩
    iapply (step5_last c I k Q)
    isplitl [H0 Hq0]; · (isplitl [H0] <;> iassumption)
    isplitl [H1 Hq1]; · (isplitl [H1] <;> iassumption)
    isplitl [Ho]; · iexact Ho
    iintro Hf
    iapply HQ
    isplitl [Hf Hw0 Hw1 H2 H3]
    · iapply (Entails.of_eq (kPart_wo c I (show ((18 : Fin 19).val = 18 ∧ 7 ≤ (6 : Fin 12).val + 1) from by decide)).symm)
      isplitl [Hf]; · iexact Hf
      isplitl [Hw0]; · iexact Hw0
      isplitl [Hw1]; · iexact Hw1
      isplitl [H2] <;> iassumption
    isplitl [Ht]; · iexact Ht
    isplitl [Hc] <;> iassumption
  · rw [skip5 l j h]
    iapply HQ
    isplitl [Hk]
    · have e : kPart c I l.val j.val = kPart c I l.val (j.val + 1) := by
        by_cases h7 : l.val = 18 ∧ 7 ≤ j.val
        · rw [kPart_wo c I h7, kPart_wo c I ⟨h7.1, by omega⟩]
        · rw [kPart_ring c I h7, kPart_ring c I (by omega), show min j.val 6 = min (j.val + 1) 6 by omega]
      iapply (Entails.of_eq e) $$ Hk
    isplitl [Ht]; · iexact Ht
    isplitl [Hc] <;> iassumption

/-- A point's middle: from what is held before a step to what is held after it. -/
theorem mid_step (l : Fin 19) (j : Fin 12) (k : Code F) (Q : PUnit → sProp 𝕄) :
    iprop(mid c I l.val j.val ∗ idle c ∗ (iprop(mid c I l.val (j.val + 1) ∗ idle c) -∗ runs c k Q))
    ⊢ runs c (step2 (at' l j) (step3 (at' l j) (step4 (at' l j) (step5 (at' l j) k)))) Q := by
  iintro ⟨⟨Hh, Hw, Hm, Ht, Hb, Hc, Hk, Hl, Hz⟩, HO, HQ⟩
  iapply (mask_step c I l j _ Q)
  isplitl [Hm]; · iexact Hm
  isplitl [HO]; · iexact HO
  iintro ⟨Hm, HO⟩
  by_cases hj : j.val < 6
  · rw [skip4 l j hj, skip5 l j (by omega)]
    iapply (block_step c I l j hj _ Q)
    isplitl [Hk]; · iexact Hk
    isplitl [Ht]; · iexact Ht
    isplitl [Hb]; · iexact Hb
    isplitl [Hc]; · iexact Hc
    isplitl [HO]; · iexact HO
    iintro ⟨Hk, Ht, Hb, Hc, HO⟩
    iapply HQ
    isplitr [HO]; swap; · iexact HO
    isplitl [Hh]; · iexact Hh
    isplitl [Hw]; · iexact Hw
    isplitl [Hm]; · iexact Hm
    isplitl [Ht]; · iexact Ht
    isplitl [Hb]; · iexact Hb
    isplitl [Hc]; · iexact Hc
    isplitl [Hk]; · iexact Hk
    isplitl [Hl] <;> iassumption
  · rw [skip3 l j (by omega)]
    iapply (tile_step c I l j (by omega) _ Q)
    isplitl [Hk]; · iexact Hk
    isplitl [Ht]; · iexact Ht
    isplitl [Hc]; · iexact Hc
    isplitl [Hm]; · iexact Hm
    iintro ⟨Hk, Ht, Hc, Hm⟩
    iapply HQ
    isplitr [HO]; swap; · iexact HO
    isplitl [Hh]; · iexact Hh
    isplitl [Hw]; · iexact Hw
    isplitl [Hm]; · iexact Hm
    isplitl [Ht]; · iexact Ht
    isplitl [Hb]; · iexact Hb
    isplitl [Hc]; · iexact Hc
    isplitl [Hk]; · iexact Hk
    isplitl [Hl] <;> iassumption

/-- A layer's end is the next one's start. -/
theorem mid_next (l : ℕ) (hl : l < 18) : mid c I l 12 ⊢ mid c I (l + 1) 0 := by
  have e : kPart c I l 12 = kPart c I (l + 1) 0 := by
    rw [kPart_ring c I (by omega), kPart_ring c I (by omega)]; rfl
  have em : mPart c I l 12 = mPart c I (l + 1) 0 := by
    rw [mPart_ge c I (by omega), mPart_ge c I (by omega)]
  unfold mid
  rw [e, em]
  iintro ⟨Hh, Hw, Hm, ⟨%f, %hf, Ht⟩, Hb, ⟨%g, -, Hc⟩, Hk, Hl, Hz⟩
  isplitl [Hh]; · iexact Hh
  isplitl [Hw]; · iexact Hw
  isplitl [Hm]; · iexact Hm
  isplitl [Ht]
  · iexists f
    isplitr; swap; · iexact Ht
    ipureintro
    refine ⟨fun _ => ?_, fun h => absurd h (by decide)⟩
    funext i
    exact hf.2 (by decide) i (by have := idx2_lt1 i; omega)
  isplitl [Hb]; · iexact Hb
  isplitl [Hc]
  · iexists g
    isplitr; swap; · iexact Hc
    ipureintro
    intro i hi
    exact absurd hi (by simp)
  isplitl [Hk]; · iexact Hk
  isplitl [Hl] <;> iassumption

/-- The invariant before point `t` of the grid's 228. -/
def inv (t : ℕ) : sProp 𝕄 :=
  if t = 0 then iprop(ends c I ∗ ∃ f, pt (F := F) c (Memref.whole main_v5) f)
  else if t = 228 then iprop(ends c I ∗ pt c (Memref.whole main_v5) (result I (at_ I 19)))
  else mid c I (t / 12) (t % 12)

theorem inv_zero : inv c I 0 = iprop(ends c I ∗ ∃ f, pt (F := F) c (Memref.whole main_v5) f) := if_pos rfl
theorem inv_last : inv c I 228 = iprop(ends c I ∗ pt c (Memref.whole main_v5) (result I (at_ I 19))) := rfl
theorem inv_mid (l j : ℕ) (hj : j < 12) (h0 : 12 * l + j ≠ 0) (h1 : 12 * l + j ≠ 228) : inv c I (12 * l + j) = mid c I l j := by
  unfold inv
  rw [if_neg h0, if_neg h1, show (12 * l + j) / 12 = l by omega, show (12 * l + j) % 12 = j by omega]

/-- From what is held after a point's middle to the invariant before the next point. -/
theorem mid_inv (l j : ℕ) (hl : l < 19) (hj : j < 12) (h : ¬ (l = 18 ∧ j = 11)) : mid c I l (j + 1) ⊢ inv c I (12 * l + j + 1) := by
  by_cases h11 : j = 11
  · subst h11
    rw [show 12 * l + 11 + 1 = 12 * (l + 1) + 0 by omega, inv_mid c I (l + 1) 0 (by decide) (by omega) (by omega)]
    exact mid_next c I l (by omega)
  · rw [show 12 * l + j + 1 = 12 * l + (j + 1) by omega, inv_mid c I l (j + 1) (by omega) (by omega) (by omega)]

/-- The layers' body at a grid point. -/
abbrev body (l : Fin 19) (j : Fin 12) : Code F :=
  step1 (at' l j) (step2 (at' l j) (step3 (at' l j) (step4 (at' l j) (step5 (at' l j) (step6 (at' l j) (pure ⟨⟩))))))

/-- The first point's first step sets the layers' state up. -/
theorem begin_step (k : Code F) (Q : PUnit → sProp 𝕄) :
    iprop(inv c I 0 ∗ idle c ∗ (iprop(mid c I 0 0 ∗ idle c) -∗ runs c k Q)) ⊢ runs c (step1 (at' 0 0) k) Q := by
  rw [inv_zero]
  iintro ⟨⟨⟨Hh, Hw, Hm, Ht, Hb, ⟨%fc, Hc⟩, ⟨%fm, Hmv⟩, H0, H1, H2, H3, Hwo, Hl, Ho, Hq⟩, Hv⟩, HO, HQ⟩
  iapply (step1_first c I k Q)
  isplitl [Hh]; · iexact Hh
  isplitl [Ht]; · iexact Ht
  isplitl [Hb]; · iexact Hb
  isplitl [Hm]; · iexact Hm
  isplitl [Hl]; · iexact Hl
  isplitl [H0]; · iexact H0
  isplitl [H1]; · iexact H1
  isplitl [H2]; · iexact H2
  isplitl [H3]; · iexact H3
  isplitl [HO]; · iexact HO
  iintro ⟨Hh, Ht, Hb, Hm, Hl, Hr, HO⟩
  iapply HQ
  isplitr [HO]; swap; · iexact HO
  isplitl [Hh]; · iexact Hh
  isplitl [Hw]; · iexact Hw
  isplitl [Hm Hmv]
  · iapply (Entails.of_eq (mPart_lt c I (⟨rfl, by decide⟩ : 0 = 0 ∧ 0 < 12)).symm)
    isplitl [Hm]; · iexact Hm
    iexists fm
    isplitr; swap; · iexact Hmv
    ipureintro
    intro i hi
    exact absurd hi (by simp)
  isplitl [Ht]; · iexact Ht
  isplitl [Hb]; · iexact Hb
  isplitl [Hc]
  · iexists fc
    isplitr; swap; · iexact Hc
    ipureintro
    intro i hi
    exact absurd hi (by simp)
  isplitl [Hr Hwo]
  · iapply (Entails.of_eq (kPart_ring c I (by decide : ¬ (0 = 18 ∧ 7 ≤ 0))).symm)
    isplitl [Hr]; · iexact Hr
    iexact Hwo
  isplitl [Hl]; · iexact Hl
  isplitl [Ho]; · iexact Ho
  isplitl [Hv]; · iexact Hv
  iexact Hq

/-- The last point's last step sends the result out. -/
theorem end_step (k : Code F) (Q : PUnit → sProp 𝕄) :
    iprop(mid c I 18 12 ∗ idle c ∗ (iprop(inv c I 228 ∗ idle c) -∗ runs c k Q)) ⊢ runs c (step6 (at' 18 11) k) Q := by
  rw [inv_last]
  unfold mid
  rw [mPart_ge c I (by decide : ¬ (18 = 0 ∧ 12 < 12)), kPart_wo c I (by decide : 18 = 18 ∧ 7 ≤ 12)]
  iintro ⟨⟨Hh, Hw, ⟨Hm, ⟨%fm, -, Hmv⟩⟩, Ht, Hb, ⟨%fc, -, Hc⟩, ⟨Hf, Hw0, Hw1, H2, H3⟩, Hl, Ho, Hv, Hq⟩, HO, HQ⟩
  iapply (step6_last c I k Q)
  isplitl [Ht]; · iexact Ht
  isplitl [Hf]; · iexact Hf
  isplitl [Hl]; · iexact Hl
  isplitl [Ho]; · iexact Ho
  isplitl [Hv]; · iexact Hv
  isplitl [Hq]; · iexact Hq
  isplitl [HO]; · iexact HO
  iintro ⟨⟨%ft, -, Ht⟩, ⟨H0, Hq0⟩, ⟨H1, Hq1⟩, Hwo, Hl, Ho, Hv, Hq, HO⟩
  iapply HQ
  isplitr [HO]; swap; · iexact HO
  isplitr [Hv]; swap; · iexact Hv
  isplitl [Hh]; · iexact Hh
  isplitl [Hw]; · iexact Hw
  isplitl [Hm]; · iexact Hm
  isplitl [Ht]; · iexists _; iexact Ht
  isplitl [Hb]; · iexists _; iexact Hb
  isplitl [Hc]; · iexists _; iexact Hc
  isplitl [Hmv]; · iexists _; iexact Hmv
  isplitl [H0 Hq0 Hw0]; · (isplitl [H0]; · iexact H0); (isplitl [Hq0] <;> iassumption)
  isplitl [H1 Hq1 Hw1]; · (isplitl [H1]; · iexact H1); (isplitl [Hq1] <;> iassumption)
  isplitl [H2]; · iexact H2
  isplitl [H3]; · iexact H3
  isplitl [Hwo]; · iexact Hwo
  isplitl [Hl]; · iexact Hl
  isplitl [Ho] <;> iassumption

/-- A point of the grid takes the invariant to the next. -/
theorem point_step (l : Fin 19) (j : Fin 12) (Q : PUnit → sProp 𝕄) :
    iprop(inv c I (12 * l.val + j.val) ∗ idle c ∗ (iprop(inv c I (12 * l.val + j.val + 1) ∗ idle c) -∗ Q ⟨⟩)) ⊢ runs c (body l j) Q := by
  have hl := l.isLt
  have hj := j.isLt
  -- from the middle's start to the end of the point
  have rest : iprop(mid c I l.val j.val ∗ idle c ∗ (iprop(inv c I (12 * l.val + j.val + 1) ∗ idle c) -∗ Q ⟨⟩))
      ⊢ runs c (step2 (at' l j) (step3 (at' l j) (step4 (at' l j) (step5 (at' l j) (step6 (at' l j) (pure ⟨⟩)))))) Q := by
    iintro ⟨Hm, HO, HQ⟩
    iapply (mid_step c I l j _ Q)
    isplitl [Hm]; · iexact Hm
    isplitl [HO]; · iexact HO
    iintro ⟨Hm, HO⟩
    by_cases h : l.val = 18 ∧ j.val = 11
    · obtain rfl : l = 18 := Fin.ext h.1
      obtain rfl : j = 11 := Fin.ext h.2
      iapply (end_step c I _ Q)
      isplitl [Hm]; · iexact Hm
      isplitl [HO]; · iexact HO
      iintro H
      iapply (runs_pure c _ Q)
      iapply HQ $$ H
    · rw [skip6 l j h]
      iapply (runs_pure c _ Q)
      iapply HQ
      isplitl [Hm]; · iapply (mid_inv c I l.val j.val hl hj h) $$ Hm
      iexact HO
  by_cases h : l.val = 0 ∧ j.val = 0
  · obtain rfl : l = 0 := Fin.ext h.1
    obtain rfl : j = 0 := Fin.ext h.2
    refine BIBase.Entails.trans ?_ (begin_step c I _ Q)
    iintro ⟨Hi, HO, HQ⟩
    isplitl [Hi]; · iexact Hi
    isplitl [HO]; · iexact HO
    iintro ⟨Hm, HO⟩
    iapply rest
    isplitl [Hm]; · iexact Hm
    isplitl [HO] <;> iassumption
  · unfold body
    rw [skip1 l j h, inv_mid c I l.val j.val hj (by omega) (by omega)]
    exact rest

end Cert.Proof

end
-- ==== Proof.Data.lean ====
/-
  The two launches' data: what the prologue leaves, what the layers are given and leave, the pipelines' proof data.
-/
module

public import proofs.«01_k».proof.Proof.Point
public import proofs.«01_k».proof.Proof.Gen.KernelIdeal.Regions

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf RegionSeg)

variable {F : FTy → Type} [FloatOps F]

local notation "𝕄" => MT nD τ sig Unit (Elt F) ℕ (UU nD τ) ℕ

/-- The prologue's three results on its operands: the first layer's input, -/
def proT (x : S256x768.Idx → F .f32) (mf : S3072x768.Idx → F .f32) : S256x3072.Idx → F .f32 :=
  k0_pay1 (k0_pay7 x mf) (k0_pay8 x mf mf) k0_pay9
/-- the bias, -/
def proB (x : S256x768.Idx → F .f32) (s : S768x768.Idx → F .f32) (b : S768x3072.Idx → F .f32) : S256x3072.Idx → F .f32 := k0_pay2 x s b
/-- the channel term. -/
def proL (x : S256x768.Idx → F .f32) (s k : S768x768.Idx → F .f32) : S256x768.Idx → F .f32 := k0_pay3 x s k

variable (m : (ℓ : Loc nD τ sig) → Buf (Elt F) ℓ)

/-- What the layers are given on core `c`. -/
def insOf (c : Dev nD) : Ins F where
  t0 := proT (V1 m c main_arg0) (V1 m c main_arg6)
  bias := proB (V1 m c main_arg0) (V1 m c main_v1) (V1 m c main_arg4)
  lm := proL (V1 m c main_arg0) (V1 m c main_v3) (V1 m c main_arg5)
  w := V1 m c main_arg1
  M := V1 m c main_arg7
  wo := V1 m c main_arg2

/-- The kernel's result on core `c`. -/
def outOf (c : Dev nD) : S256x768.Idx → F .f32 := result (insOf m c) (at_ (insOf m c) 19)

/-- The buffers at the end: the prologue's results and the layers' at theirs. -/
def fin_ (c : Dev nD) : Valuation τ sig (Elt F) :=
  Function.update (Function.update (Function.update (Function.update (V1 m c) main_v4_0 (insOf m c).t0) main_v4_1 (insOf m c).bias)
    main_v4_2 (insOf m c).lm) main_v5 (outOf m c)

theorem fin_v5 (c : Dev nD) : fin_ m c main_v5 = outOf m c := by
  unfold fin_; rw [Function.update_self]
theorem fin_v4_2 (c : Dev nD) : fin_ m c main_v4_2 = (insOf m c).lm := by
  unfold fin_
  rw [Function.update_of_ne (StableHlo.devRef_ne_of_ne (by decide)), Function.update_self]
theorem fin_v4_1 (c : Dev nD) : fin_ m c main_v4_1 = (insOf m c).bias := by
  unfold fin_
  rw [Function.update_of_ne (StableHlo.devRef_ne_of_ne (by decide)), Function.update_of_ne (StableHlo.devRef_ne_of_ne (by decide)), Function.update_self]
theorem fin_v4_0 (c : Dev nD) : fin_ m c main_v4_0 = (insOf m c).t0 := by
  unfold fin_
  rw [Function.update_of_ne (StableHlo.devRef_ne_of_ne (by decide)), Function.update_of_ne (StableHlo.devRef_ne_of_ne (by decide)),
    Function.update_of_ne (StableHlo.devRef_ne_of_ne (by decide)), Function.update_self]

/-- What the launches leave. -/
def outs : Outs (F := F) := fun _ r c => fin_ m c r

theorem V2_v4_0 (c : Dev nD) : V2 m (outs m) c main_v4_0 = (insOf m c).t0 := by
  unfold V2
  rw [Function.update_of_ne (StableHlo.devRef_ne_of_ne (by decide)), Function.update_of_ne (StableHlo.devRef_ne_of_ne (by decide)), Function.update_self]
  exact fin_v4_0 m c
theorem V2_v4_1 (c : Dev nD) : V2 m (outs m) c main_v4_1 = (insOf m c).bias := by
  unfold V2
  rw [Function.update_of_ne (StableHlo.devRef_ne_of_ne (by decide)), Function.update_self]
  exact fin_v4_1 m c
theorem V2_v4_2 (c : Dev nD) : V2 m (outs m) c main_v4_2 = (insOf m c).lm := by
  unfold V2
  rw [Function.update_self]
  exact fin_v4_2 m c
theorem V3_v5 (c : Dev nD) : V3 m (outs m) c main_v5 = outOf m c := by
  unfold V3
  rw [Function.update_self]
  exact fin_v5 m c
theorem V3_v4_0 (c : Dev nD) : V3 m (outs m) c main_v4_0 = (insOf m c).t0 := by
  unfold V3
  rw [Function.update_of_ne (StableHlo.devRef_ne_of_ne (by decide)), Function.update_of_ne (StableHlo.devRef_ne_of_ne (by decide)),
    Function.update_of_ne (StableHlo.devRef_ne_of_ne (by decide)), Function.update_self]
  exact fin_v4_0 m c
theorem V3_v4_1 (c : Dev nD) : V3 m (outs m) c main_v4_1 = (insOf m c).bias := by
  unfold V3
  rw [Function.update_of_ne (StableHlo.devRef_ne_of_ne (by decide)), Function.update_of_ne (StableHlo.devRef_ne_of_ne (by decide)), Function.update_self]
  exact fin_v4_1 m c
theorem V3_v4_2 (c : Dev nD) : V3 m (outs m) c main_v4_2 = (insOf m c).lm := by
  unfold V3
  rw [Function.update_of_ne (StableHlo.devRef_ne_of_ne (by decide)), Function.update_self]
  exact fin_v4_2 m c

/-- The prologue's proof data: its inputs as they are, its results at theirs. -/
def dat0 (c : Dev nD) : Dat τ (Elt F) Unit ℕ (UU nD τ) ℕ cfg0 c where
  A w := V1 m c (Pipeline.arrRef spec0 w)
  after w _ := match w with
    | ⟨0, _⟩ => V1 m c main_arg0
    | ⟨1, _⟩ => V1 m c main_arg6
    | ⟨2, _⟩ => V1 m c main_v1
    | ⟨3, _⟩ => V1 m c main_arg4
    | ⟨4, _⟩ => V1 m c main_v3
    | ⟨5, _⟩ => V1 m c main_arg5
    | ⟨6, _⟩ => (insOf m c).t0
    | ⟨7, _⟩ => (insOf m c).bias
    | ⟨8, _⟩ => (insOf m c).lm
    | ⟨n + 9, h⟩ => absurd h (Nat.not_lt.2 (Nat.le_add_left _ _))
  Φ _ := Pipeline.scopedRest (Ix := Unit) (Name := ℕ) (U := UU nD τ) (Lvl := ℕ) (Val := Elt F) spec0 c
  q _ := fullShare
  owed _ := 0

/-- The prologue's staging buffers, idle during the layers. -/
abbrev stgs (c : Dev nD) : sProp 𝕄 :=
  iprop((∃ f, pt (F := F) c (Memref.whole cc0_stg0_0) f) ∗ (∃ f, pt (F := F) c (Memref.whole cc0_stg1_0) f) ∗ (∃ f, pt (F := F) c (Memref.whole cc0_stg2_0) f)
    ∗ (∃ f, pt (F := F) c (Memref.whole cc0_stg3_0) f) ∗ (∃ f, pt (F := F) c (Memref.whole cc0_stg4_0) f) ∗ (∃ f, pt (F := F) c (Memref.whole cc0_stg5_0) f)
    ∗ (∃ f, pt (F := F) c (Memref.whole cc0_stg6_0) f) ∗ (∃ f, pt (F := F) c (Memref.whole cc0_stg7_0) f) ∗ (∃ f, pt (F := F) c (Memref.whole cc0_stg8_0) f))

/-- The layers' proof data: the invariant between points, the prologue's staging buffers beside it. -/
def dat1 (c : Dev nD) : Dat τ (Elt F) Unit ℕ (UU nD τ) ℕ cfg1 c where
  A w := w.elim0
  after w _ := w.elim0
  Φ t := iprop(inv c (insOf m c) t.val ∗ stgs c)
  q _ := fullShare
  owed _ := 0

/-- The two. -/
def dats : (p : Fin 2) → (c : Dev nD) → Dat τ (Elt F) Unit ℕ (UU nD τ) ℕ (cfgs p) c
  | 0 => dat0 m
  | 1 => dat1 m
  | ⟨_ + 2, h⟩ => absurd h (Nat.not_lt.2 (Nat.le_add_left _ _))

/-- Nothing varies. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between the items. -/
abbrev R (c : Dev nD) : sProp 𝕄 := idle c

end Cert.Proof

end
-- ==== Proof.Region0.lean ====
/-
  The prologue's launch: its body on the staged operands, and its segment of the program.
-/
module

public import proofs.«01_k».proof.Proof.Data
public import Idealize.ShloMosaic.Lib.Pipeline.RegionsLoop

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf RegionSeg)

variable {F : FTy → Type} [FloatOps F]

local notation "𝕄" => MT nD τ sig Unit (Elt F) ℕ (UU nD τ) ℕ

/-- A matrix loaded whole. -/
theorem load_all (c : Dev nD) {cs : CoreSpace} {n0 n1 : ℕ} {e : EltTy} (M : Memref sig .tc cs ⟨2, ![n0, n1]⟩ e)
    (inb : ∀ a, (![0, 0] : Fin 2 → ℕ) a + (⟨2, ![n0, n1]⟩ : Shape).size a ≤ (⟨2, ![n0, n1]⟩ : Shape).size a)
    {hl} (f : Bf (F := F) c M) (v : (⟨2, ![n0, n1]⟩ : Shape).Idx → Elt F e) (hf : M.view.read (Elt F) f = v)
    (Q : ((⟨2, ![n0, n1]⟩ : Shape).Idx → Elt F e) → sProp 𝕄) :
    iprop(pt c M f ∗ (pt c M f -∗ Q v))
    ⊢ runs c (Prog.lift (.load M (Rect.unit (s := ⟨2, ![n0, n1]⟩) ![0, 0] (⟨2, ![n0, n1]⟩ : Shape).size inb).toLoadRect hl)) Q :=
  load2 c M ![0, 0] inb 0 0 rfl f v (fun x y h0 h1 => by
    rw [show x = y from funext fun a => match a with
      | ⟨0, _⟩ => Fin.ext (by show (x 0).val = (y 0).val; omega)
      | ⟨1, _⟩ => Fin.ext (by show (x 1).val = (y 1).val; omega), hf]) Q

/-- A matrix stored whole. -/
theorem store_all (c : Dev nD) {cs : CoreSpace} {n0 n1 : ℕ} {e : EltTy} (M : Memref sig .tc cs ⟨2, ![n0, n1]⟩ e)
    (inb : ∀ a, (![0, 0] : Fin 2 → ℕ) a + (⟨2, ![n0, n1]⟩ : Shape).size a ≤ (⟨2, ![n0, n1]⟩ : Shape).size a)
    (w : (⟨2, ![n0, n1]⟩ : Shape).Idx → Elt F e) {hx hm} (f : Bf (F := F) c M) (Q : PUnit → sProp 𝕄) :
    iprop(pt c M f ∗ (iprop(∃ f', ⌜M.view.read (Elt F) f' = w⌝ ∗ pt c M f') -∗ Q ⟨⟩))
    ⊢ runs c (Prog.lift (.store M (Rect.unit (s := ⟨2, ![n0, n1]⟩) ![0, 0] (⟨2, ![n0, n1]⟩ : Shape).size inb) w Finset.univ hx hm)) Q :=
  store2 c M ![0, 0] inb 0 0 rfl w f (fun f' => M.view.read (Elt F) f' = w)
    (fun f' h _ => funext fun y => h y y (by omega) (by omega)) Q

set_option maxHeartbeats 2000000 in
/-- The prologue on its operands: its three results written. -/
theorem prologue_run (c : Dev nD) (x : S256x768.Idx → F .f32) (mf : S3072x768.Idx → F .f32) (s0 : S768x768.Idx → F .f32)
    (bm : S768x3072.Idx → F .f32) (s1 cm : S768x768.Idx → F .f32)
    (f6 : Bf (F := F) c (Memref.whole cc0_stg6_0)) (f7 : Bf (F := F) c (Memref.whole cc0_stg7_0)) (f8 : Bf (F := F) c (Memref.whole cc0_stg8_0))
    (Q : PUnit → sProp 𝕄) :
    iprop(pt c (Memref.whole cc0_stg0_0) x ∗ pt c (Memref.whole cc0_stg1_0) mf ∗ pt c (Memref.whole cc0_stg2_0) s0 ∗ pt c (Memref.whole cc0_stg3_0) bm
      ∗ pt c (Memref.whole cc0_stg4_0) s1 ∗ pt c (Memref.whole cc0_stg5_0) cm ∗ pt c (Memref.whole cc0_stg6_0) f6 ∗ pt c (Memref.whole cc0_stg7_0) f7
      ∗ pt c (Memref.whole cc0_stg8_0) f8
      ∗ (iprop(pt c (Memref.whole cc0_stg0_0) x ∗ pt c (Memref.whole cc0_stg1_0) mf ∗ pt c (Memref.whole cc0_stg2_0) s0 ∗ pt c (Memref.whole cc0_stg3_0) bm
        ∗ pt c (Memref.whole cc0_stg4_0) s1 ∗ pt c (Memref.whole cc0_stg5_0) cm ∗ pt c (Memref.whole cc0_stg6_0) (proT x mf)
        ∗ pt c (Memref.whole cc0_stg7_0) (proB x s0 bm) ∗ pt c (Memref.whole cc0_stg8_0) (proL x s1 cm)) -∗ Q ⟨⟩))
    ⊢ runs c (cc0_bp_prologue (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_stg6_0) (Memref.isWhole_whole _) (Memref.whole cc0_stg7_0) (Memref.isWhole_whole _)
        (Memref.whole cc0_stg8_0) (Memref.isWhole_whole _)) Q := by
  rw [cc0_bp_prologue_eq_skeleton]
  unfold cc0_bp_prologue_skel
  rw [k0_part1_eq_skeleton]
  unfold k0_part1_skel
  iintro ⟨H0, H1, H2, H3, H4, H5, H6, H7, H8, HQ⟩
  iapply runs_bind
  iapply runs_bind
  iapply (load_all c (Memref.whole cc0_stg0_0) _ x x rfl)
  isplitl [H0]; · iexact H0
  iintro H0
  iapply runs_bind
  iapply (load_all c (Memref.whole cc0_stg1_0) _ mf mf rfl)
  isplitl [H1]; · iexact H1
  iintro H1
  iapply runs_bind
  iapply (load_all c (Memref.whole cc0_stg1_0) _ mf mf rfl)
  isplitl [H1]; · iexact H1
  iintro H1
  iapply runs_pure
  iapply runs_bind
  iapply (load_all c (Memref.whole cc0_stg6_0) _ f6 f6 rfl)
  isplitl [H6]; · iexact H6
  iintro H6
  iapply runs_bind
  iapply (store_all c (Memref.whole cc0_stg6_0) _ (k0_pay1 (k0_pay7 x mf) (k0_pay8 x mf mf) k0_pay9) f6)
  isplitl [H6]; · iexact H6
  iintro ⟨%g6, %h6, H6⟩
  iapply runs_bind
  iapply (load_all c (Memref.whole cc0_stg2_0) _ s0 s0 rfl)
  isplitl [H2]; · iexact H2
  iintro H2
  iapply runs_bind
  iapply (load_all c (Memref.whole cc0_stg3_0) _ bm bm rfl)
  isplitl [H3]; · iexact H3
  iintro H3
  iapply runs_bind
  iapply (load_all c (Memref.whole cc0_stg7_0) _ f7 f7 rfl)
  isplitl [H7]; · iexact H7
  iintro H7
  iapply runs_bind
  iapply (store_all c (Memref.whole cc0_stg7_0) _ (k0_pay2 x s0 bm) f7)
  isplitl [H7]; · iexact H7
  iintro ⟨%g7, %h7, H7⟩
  iapply runs_bind
  iapply (load_all c (Memref.whole cc0_stg4_0) _ s1 s1 rfl)
  isplitl [H4]; · iexact H4
  iintro H4
  iapply runs_bind
  iapply (load_all c (Memref.whole cc0_stg5_0) _ cm cm rfl)
  isplitl [H5]; · iexact H5
  iintro H5
  iapply runs_bind
  iapply (load_all c (Memref.whole cc0_stg8_0) _ f8 f8 rfl)
  isplitl [H8]; · iexact H8
  iintro H8
  iapply runs_bind
  iapply (store_all c (Memref.whole cc0_stg8_0) _ (k0_pay3 x s1 cm) f8)
  isplitl [H8]; · iexact H8
  iintro ⟨%g8, %h8, H8⟩
  iapply runs_pure
  iapply HQ
  obtain rfl : g6 = proT x mf := h6
  obtain rfl : g7 = proB x s0 bm := h7
  obtain rfl : g8 = proL x s1 cm := h8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

variable (m : (ℓ : Loc nD τ sig) → Buf (Elt F) ℓ)

/-- The one block of a whole array starts at its corner. -/
theorem whole_at (s n : ℕ) : 0 * s + 1 * n = n := by omega

/-- A staged operand is the array's contents when the body runs. -/
theorem before0 (c : Dev nD) (d : (cfg0.win 0).block.Idx → Elt F (cfg0.win 0).elt) : (dat0 m c).before 0 t0_0 d = V1 m c main_arg0 := by
  unfold Dat.before; rw [if_pos (by decide)]
  unfold Dat.fetched Window.fill
  funext j
  rw [dif_pos (by rfl)]
  exact congrArg (V1 m c main_arg0 : S256x768.Idx → F .f32) (funext fun a => Fin.ext (whole_at _ _))
theorem before1 (c : Dev nD) (d : (cfg0.win 1).block.Idx → Elt F (cfg0.win 1).elt) : (dat0 m c).before 1 t0_0 d = V1 m c main_arg6 := by
  unfold Dat.before; rw [if_pos (by decide)]
  unfold Dat.fetched Window.fill
  funext j
  rw [dif_pos (by rfl)]
  exact congrArg (V1 m c main_arg6 : S3072x768.Idx → F .f32) (funext fun a => Fin.ext (whole_at _ _))
theorem before2 (c : Dev nD) (d : (cfg0.win 2).block.Idx → Elt F (cfg0.win 2).elt) : (dat0 m c).before 2 t0_0 d = V1 m c main_v1 := by
  unfold Dat.before; rw [if_pos (by decide)]
  unfold Dat.fetched Window.fill
  funext j
  rw [dif_pos (by rfl)]
  exact congrArg (V1 m c main_v1 : S768x768.Idx → F .f32) (funext fun a => Fin.ext (whole_at _ _))
theorem before3 (c : Dev nD) (d : (cfg0.win 3).block.Idx → Elt F (cfg0.win 3).elt) : (dat0 m c).before 3 t0_0 d = V1 m c main_arg4 := by
  unfold Dat.before; rw [if_pos (by decide)]
  unfold Dat.fetched Window.fill
  funext j
  rw [dif_pos (by rfl)]
  exact congrArg (V1 m c main_arg4 : S768x3072.Idx → F .f32) (funext fun a => Fin.ext (whole_at _ _))
theorem before4 (c : Dev nD) (d : (cfg0.win 4).block.Idx → Elt F (cfg0.win 4).elt) : (dat0 m c).before 4 t0_0 d = V1 m c main_v3 := by
  unfold Dat.before; rw [if_pos (by decide)]
  unfold Dat.fetched Window.fill
  funext j
  rw [dif_pos (by rfl)]
  exact congrArg (V1 m c main_v3 : S768x768.Idx → F .f32) (funext fun a => Fin.ext (whole_at _ _))
theorem before5 (c : Dev nD) (d : (cfg0.win 5).block.Idx → Elt F (cfg0.win 5).elt) : (dat0 m c).before 5 t0_0 d = V1 m c main_arg5 := by
  unfold Dat.before; rw [if_pos (by decide)]
  unfold Dat.fetched Window.fill
  funext j
  rw [dif_pos (by rfl)]
  exact congrArg (V1 m c main_arg5 : S768x768.Idx → F .f32) (funext fun a => Fin.ext (whole_at _ _))

/-- The prologue's body meets its proof data. -/
theorem body0 (c : Dev nD) : BodyObligation (dat0 m c) (defs₀ (F := F)) 𝒱₀ () Set.univ := fun t => by
  obtain rfl := fin_N0 t
  rw [bigSep_W0, bigSep_W0]
  simp only [owns_whole_eq]
  rw [show (dat0 m c).Φ t0_0.succ = (dat0 m c).Φ t0_0.castSucc from rfl]
  unfold Dat.owesAt Pipeline.owesWithin
  rw [show (dat0 m c).owed t0_0.castSucc = 0 from rfl, show (dat0 m c).owed t0_0.succ = 0 from rfl]
  iintro ⟨HΦ, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%d8, %f8, %h8, H8⟩⟩
  rw [before0] at h0
  rw [before1] at h1
  rw [before2] at h2
  rw [before3] at h3
  rw [before4] at h4
  rw [before5] at h5
  obtain rfl : f0 = V1 m c main_arg0 := h0
  obtain rfl : f1 = V1 m c main_arg6 := h1
  obtain rfl : f2 = V1 m c main_v1 := h2
  obtain rfl : f3 = V1 m c main_arg4 := h3
  obtain rfl : f4 = V1 m c main_v3 := h4
  obtain rfl : f5 = V1 m c main_arg5 := h5
  iapply (prologue_run c (V1 m c main_arg0) (V1 m c main_arg6) (V1 m c main_v1) (V1 m c main_arg4) (V1 m c main_v3) (V1 m c main_arg5) f6 f7 f8)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [HO]
  · iexists W; isplitr; · ipureintro; exact fun _ _ => Or.inl trivial
    iexact HO
  isplitl [H0]; · (iexists _; isplitr; swap; (· iexact H0); ipureintro; rfl)
  isplitl [H1]; · (iexists _; isplitr; swap; (· iexact H1); ipureintro; rfl)
  isplitl [H2]; · (iexists _; isplitr; swap; (· iexact H2); ipureintro; rfl)
  isplitl [H3]; · (iexists _; isplitr; swap; (· iexact H3); ipureintro; rfl)
  isplitl [H4]; · (iexists _; isplitr; swap; (· iexact H4); ipureintro; rfl)
  isplitl [H5]; · (iexists _; isplitr; swap; (· iexact H5); ipureintro; rfl)
  isplitl [H6]; · (iexists _; isplitr; swap; (· iexact H6); ipureintro; rfl)
  isplitl [H7]; · (iexists _; isplitr; swap; (· iexact H7); ipureintro; rfl)
  iexists _; isplitr; swap; (· iexact H8); ipureintro; rfl

/-- A result written back whole is the array. -/
theorem back6 (f : ((cfg0.win 6).blk t0_0).view.ty.Contents (Elt F)) (w : S256x3072.Idx → F .f32) :
    ((cfg0.win 6).blk t0_0).view.write (Elt F) f w Finset.univ = w := by
  funext i
  have e : ((cfg0.win 6).blk t0_0).view.emb i = i := funext fun a => Fin.ext (whole_at _ _)
  have h := View.write_emb_of_mem (v := ((cfg0.win 6).blk t0_0).view) f w (Finset.mem_univ i)
  rw [e] at h
  exact h
theorem back7 (f : ((cfg0.win 7).blk t0_0).view.ty.Contents (Elt F)) (w : S256x3072.Idx → F .f32) :
    ((cfg0.win 7).blk t0_0).view.write (Elt F) f w Finset.univ = w := by
  funext i
  have e : ((cfg0.win 7).blk t0_0).view.emb i = i := funext fun a => Fin.ext (whole_at _ _)
  have h := View.write_emb_of_mem (v := ((cfg0.win 7).blk t0_0).view) f w (Finset.mem_univ i)
  rw [e] at h
  exact h
theorem back8 (f : ((cfg0.win 8).blk t0_0).view.ty.Contents (Elt F)) (w : S256x768.Idx → F .f32) :
    ((cfg0.win 8).blk t0_0).view.write (Elt F) f w Finset.univ = w := by
  funext i
  have e : ((cfg0.win 8).blk t0_0).view.emb i = i := funext fun a => Fin.ext (whole_at _ _)
  have h := View.write_emb_of_mem (v := ((cfg0.win 8).blk t0_0).view) f w (Finset.mem_univ i)
  rw [e] at h
  exact h

/-- The arrays after the prologue: its operands as they were, its results at theirs. -/
theorem arrays0 (c : Dev nD) (w : Fin cfg0.W) : (dat0 m c).arrAt w cfg0.N = V2 m (outs m) c (Pipeline.arrRef spec0 w) := by
  have hin : ∀ w : Fin 9, w.val < 6 → Pipeline.arrRef spec0 w ∉ ([main_v4_0, main_v4_1, main_v4_2] : List (Ref sig .tc)) := by decide
  have hn : cfg0.N = t0_0.val + 1 := N_0
  match w with
  | ⟨0, _⟩ => exact ((dat0 m c).arrAt_in 0 rfl _).trans (V2_of m (outs m) c _ (hin 0 (by decide))).symm
  | ⟨1, _⟩ => exact ((dat0 m c).arrAt_in 1 rfl _).trans (V2_of m (outs m) c _ (hin 1 (by decide))).symm
  | ⟨2, _⟩ => exact ((dat0 m c).arrAt_in 2 rfl _).trans (V2_of m (outs m) c _ (hin 2 (by decide))).symm
  | ⟨3, _⟩ => exact ((dat0 m c).arrAt_in 3 rfl _).trans (V2_of m (outs m) c _ (hin 3 (by decide))).symm
  | ⟨4, _⟩ => exact ((dat0 m c).arrAt_in 4 rfl _).trans (V2_of m (outs m) c _ (hin 4 (by decide))).symm
  | ⟨5, _⟩ => exact ((dat0 m c).arrAt_in 5 rfl _).trans (V2_of m (outs m) c _ (hin 5 (by decide))).symm
  | ⟨6, _⟩ =>
    rw [hn]
    refine ((dat0 m c).arrAt_succ 6 t0_0).trans ?_
    rw [if_pos (flush0_6 t0_0)]
    exact (back6 _ _).trans (V2_v4_0 m c).symm
  | ⟨7, _⟩ =>
    rw [hn]
    refine ((dat0 m c).arrAt_succ 7 t0_0).trans ?_
    rw [if_pos (flush0_7 t0_0)]
    exact (back7 _ _).trans (V2_v4_1 m c).symm
  | ⟨8, _⟩ =>
    rw [hn]
    refine ((dat0 m c).arrAt_succ 8 t0_0).trans ?_
    rw [if_pos (flush0_8 t0_0)]
    exact (back8 _ _).trans (V2_v4_2 m c).symm
  | ⟨n + 9, h⟩ => exact absurd h (Nat.not_lt.2 (Nat.le_add_left _ _))

/-- The arrays the prologue writes are its windows'. -/
theorem rest0 (c : Dev nD) (b : Ref sig .tc) (hb : b ∉ Finset.univ.image (Pipeline.arrRef spec0)) : V2 m (outs m) c b = V1 m c b := by
  refine V2_of m (outs m) c b fun h => hb ?_
  have : ∀ b ∈ ([main_v4_0, main_v4_1, main_v4_2] : List (Ref sig .tc)), b ∈ Finset.univ.image (Pipeline.arrRef spec0) := by decide
  exact this b h

/-- The prologue has no semaphore of its own. -/
theorem ownSemFacts0 : Pipeline.OwnSemFacts spec0 (fun k : PEmpty => k.elim) := Pipeline.OwnSemFacts.none _

set_option backward.isDefEq.respectTransparency.types false in
/-- The prologue's segment. -/
def reg0 : RegionSeg (pcfgs (F := F)) adm (dats m) () defs₀ 𝒱₀ L lv 0 where
  win := launch0.win.to₀
  block_pos := launch0.block_pos
  stage_whole := launch0.stage_whole
  K := PEmpty
  osem := fun k => k.elim
  ho := ownSemFacts0
  hbody c := (body0 m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X _ := iprop(emp)
  Y _ := iprop(emp)
  Z c := Pipeline.unscopedRest (Ix := Unit) (Name := ℕ) (U := UU nD τ) (Lvl := ℕ) spec0 c (fun b => V1 m c b)
  hentry c := by
    rw [show StableHlo.held (c : Thread nD τ) (Pipeline.ucRefs τ sig) (V1 m c) = unscopedBufs c (fun b => V1 m c b) from (Pipeline.unscopedBufs_held c _).symm,
      Pipeline.ownSems0_none]
    have hsplit := Pipeline.arrays_of_unscopedBufs (p := 0) (pcfgs (F := F)) adm (dats m) launch0.win launch0.arr_whole c
      ((dats m 0 c).share_full fun _ => rfl) (fun b => V1 m c b) (fun _ => rfl)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest (Ix := Unit) (Name := ℕ) (U := UU nD τ) (Lvl := ℕ) (Val := Elt F) spec0 c from rfl]
    iintro ⟨-, -, Hr⟩
    iexact Hr
  hout c := by
    rw [Pipeline.ownSems0_none, show (dats m 0 c).Φ (Fin.last (Pipeline.pin pcfgs adm 0).N)
      = Pipeline.scopedRest (Ix := Unit) (Name := ℕ) (U := UU nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V2 m (outs m) c) = unscopedBufs c (fun b => V2 m (outs m) c b) from (Pipeline.unscopedBufs_held c _).symm]
    have hjoin := Pipeline.unscopedBufs_of_arrays (p := 0) (pcfgs (F := F)) adm launch0.win launch0.arr_whole c (dats m)
      ((dats m 0 c).share_full fun _ => rfl) (fun b => V1 m c b) (fun b => V2 m (outs m) c b) ((dats m 0 c).arrAt · cfg0.N)
      (arrays0 m c) (rest0 m c)
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

end Cert.Proof

end
-- ==== Proof.Region1.lean ====
/-
  The layers' launch: its buffers and semaphores dealt out and gathered again, its body at every point, its segment of
  the program.
-/
module

public import proofs.«01_k».proof.Proof.Data
public import Idealize.ShloMosaic.Lib.Pipeline.RegionsLoop

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf RegionSeg)

variable {F : FTy → Type} [FloatOps F]

local notation "𝕄" => MT nD τ sig Unit (Elt F) ℕ (UU nD τ) ℕ

/-! ## The weight buffer is its four slots -/

/-- Slot `s`'s elements are those whose leading index is `s`. -/
theorem mem_slot (s : Fin 4) (i : S4x512x3072.Idx) : i ∈ (slotM s).view.set ↔ (i 0).val = s.val := by
  have e : ∀ (b : Fin 512) (d : Fin 3072), (slotM s).view.emb (ix2 b d) = (ix3 s b d : S4x512x3072.Idx) := by
    intro b d
    show (Rect.unit (s := S4x512x3072) ![s.val, 0, 0] S1x512x3072.size (inb_slot s)).emb (Shape.reshapeEquiv _ (ix2 b d)) = _
    rw [reshapeEquiv_ix2_1ab]
    funext k
    match k with
    | ⟨0, _⟩ => exact Fin.ext (by simp [Rect.emb, Rect.unit])
    | ⟨1, _⟩ => exact Fin.ext (by simp [Rect.emb, Rect.unit])
    | ⟨2, _⟩ => exact Fin.ext (by simp [Rect.emb, Rect.unit])
  constructor
  · intro h
    obtain ⟨x, -, rfl⟩ := Finset.mem_map.mp h
    obtain ⟨x0, x1, rfl⟩ : ∃ (x0 : Fin 512) (x1 : Fin 3072), x = ix2 x0 x1 := ⟨x 0, x 1, eq_ix2 x⟩
    rw [e]
  · intro h
    obtain ⟨a, b, d, rfl⟩ : ∃ (a : Fin 4) (b : Fin 512) (d : Fin 3072), i = ix3 a b d := ⟨i 0, i 1, i 2, eq_ix3 i⟩
    obtain rfl : a = s := Fin.ext h
    exact Finset.mem_map.mpr ⟨ix2 b d, Finset.mem_univ _, e b d⟩

/-- The elements of slot `s`. -/
def slotSet (s : Fin 4) : Finset S4x512x3072.Idx := (slotM s).view.set

/-- The slots are disjoint, -/
theorem slots_disjoint : ∀ s ∈ (Finset.univ : Finset (Fin 4)), ∀ s' ∈ (Finset.univ : Finset (Fin 4)), s ≠ s' →
    Disjoint (slotSet s) (slotSet s') := fun s _ s' _ h =>
  Finset.disjoint_left.mpr fun i hi hi' => h (Fin.ext (((mem_slot s i).mp hi).symm.trans ((mem_slot s' i).mp hi')))

/-- and are the whole buffer. -/
theorem slots_cover : (Finset.univ : Finset (Fin 4)).biUnion slotSet = Finset.univ :=
  Finset.eq_univ_of_forall fun i => Finset.mem_biUnion.mpr ⟨⟨(i 0).val, (i 0).isLt⟩, Finset.mem_univ _, (mem_slot _ i).mpr rfl⟩

variable (c : Dev nD)

/-- The four slots, holding anything. -/
abbrev slots : sProp 𝕄 :=
  iprop((∃ X, slotHas (F := F) c 0 X) ∗ (∃ X, slotHas (F := F) c 1 X) ∗ (∃ X, slotHas (F := F) c 2 X) ∗ (∃ X, slotHas (F := F) c 3 X))

theorem slots_chain (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) _

/-- The buffer dealt into its slots, -/
theorem slots_of_whole : iprop(∃ f, pt (F := F) c (Memref.whole cc1_scratch4) f) ⊢ slots (F := F) c := by
  iintro ⟨%f, H⟩
  have e : (pt c (Memref.whole cc1_scratch4) f : sProp 𝕄)
      = bigSep Finset.univ fun s : Fin 4 => (Memref.whole cc1_scratch4).view.loc (c : Thread nD τ) ↦[slotSet s]{fullShare} f := by
    rw [← pointsTo_biUnion (Val := Elt F) (ℓ := (Memref.whole cc1_scratch4).view.loc (c : Thread nD τ)) Finset.univ slotSet slots_disjoint, slots_cover]
  ihave H := (Entails.of_eq (e.trans (slots_chain _))) $$ H
  unfold slots slotHas owns
  icases H with ⟨H0, H1, H2, H3⟩
  isplitl [H0]; · (iexists _; iexists f; isplitr; swap; (· iexact H0); ipureintro; rfl)
  isplitl [H1]; · (iexists _; iexists f; isplitr; swap; (· iexact H1); ipureintro; rfl)
  isplitl [H2]; · (iexists _; iexists f; isplitr; swap; (· iexact H2); ipureintro; rfl)
  iexists _; iexists f; isplitr; swap; (· iexact H3); ipureintro; rfl

/-- and gathered again. -/
theorem whole_of_slots : slots (F := F) c ⊢ iprop(∃ f, pt (F := F) c (Memref.whole cc1_scratch4) f) := by
  unfold slots slotHas owns
  iintro ⟨⟨%X0, %f0, -, H0⟩, ⟨%X1, %f1, -, H1⟩, ⟨%X2, %f2, -, H2⟩, ⟨%X3, %f3, -, H3⟩⟩
  have j := (pointsTo_biUnion_join (Val := Elt F) (Lvl := ℕ) (Ix := Unit) (Name := ℕ) (U := UU nD τ) (q := fullShare)
    (ℓ := (Memref.whole cc1_scratch4).view.loc (c : Thread nD τ)) Finset.univ
    slotSet (fun s => match s with | 0 => f0 | 1 => f1 | 2 => f2 | 3 => f3) f0 slots_disjoint)
  rw [slots_cover] at j
  ihave H := ((Entails.of_eq (slots_chain _).symm).trans j) $$ [H0 H1 H2 H3]
  · isplitl [H0]; · iexact H0
    isplitl [H1]; · iexact H1
    isplitl [H2]; · iexact H2
    iexact H3
  icases H with ⟨%g, -, H⟩
  iexists g
  iexact H

/-! ## The weights' share, dealt to the slots -/

variable (I : Ins F)

theorem w_split : (pt c (Memref.whole main_arg1) I.w : sProp 𝕄) ⊣⊢ iprop(wDrop c I ∗ wTok c I.w 0 ∗ wTok c I.w 1 ∗ wTok c I.w 2 ∗ wTok c I.w 3) := by
  refine (pointsTo_toks (Val := Elt F) (Lvl := ℕ) (Ix := Unit) (U := UU nD τ) (ℓ := (Memref.whole main_arg1).view.loc (c : Thread nD τ))
    (S := Finset.univ) (f := (I.w : Bf (F := F) c (Memref.whole main_arg1))) fullShare 4).trans ?_
  rw [slots_chain]

/-! ## The launch's own semaphores -/

/-- The nine: four of the operands', four of the slots', the result's. -/
abbrev osem : Fin 9 → SemLoc sig := fun
  | 0 => .dma (isem ![0] inb_S4_S1_0) | 1 => .dma (isem ![1] inb_S4_S1_1) | 2 => .dma (isem ![2] inb_S4_S1_2) | 3 => .dma (isem ![3] inb_S4_S1_3)
  | 4 => .dma (wsem 0) | 5 => .dma (wsem 1) | 6 => .dma (wsem 2) | 7 => .dma (wsem 3) | 8 => .dma cc1_scratch10.sem
  | ⟨_ + 9, h⟩ => absurd h (Nat.not_lt.2 (Nat.le_add_left _ _))

theorem ownSemFacts1 : Pipeline.OwnSemFacts cfg1.spec osem := by decide

/-- All at zero. -/
abbrev sems0 : sProp 𝕄 :=
  iprop(quiet c (isem ![0] inb_S4_S1_0) ∗ quiet c (isem ![1] inb_S4_S1_1) ∗ quiet c (isem ![2] inb_S4_S1_2) ∗ quiet c (isem ![3] inb_S4_S1_3)
    ∗ quiet c (wsem 0) ∗ quiet c (wsem 1) ∗ quiet c (wsem 2) ∗ quiet c (wsem 3) ∗ quiet c cc1_scratch10.sem)

theorem ownSems0_eq : (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7, 8] (by decide) (by decide)

/-! ## The invariant's two ends -/

/-- What the layers read, held whole. -/
abbrev reads : sProp 𝕄 :=
  iprop(pt c (Memref.whole main_arg1) I.w ∗ pt c (Memref.whole main_arg2) I.wo ∗ pt c (Memref.whole main_arg7) I.M
    ∗ pt c (Memref.whole main_v4_0) I.t0 ∗ pt c (Memref.whole main_v4_1) I.bias ∗ pt c (Memref.whole main_v4_2) I.lm)

/-- The layers' own buffers. -/
abbrev bufs : sProp 𝕄 :=
  iprop((∃ f, pt (F := F) c (Memref.whole cc1_scratch0) f) ∗ (∃ f, pt (F := F) c (Memref.whole cc1_scratch1) f) ∗ (∃ f, pt (F := F) c (Memref.whole cc1_scratch2) f)
    ∗ (∃ f, pt (F := F) c (Memref.whole cc1_scratch3) f) ∗ (∃ f, pt (F := F) c (Memref.whole cc1_scratch4) f) ∗ (∃ f, pt (F := F) c (Memref.whole cc1_scratch5) f)
    ∗ (∃ f, pt (F := F) c (Memref.whole cc1_scratch6) f) ∗ (∃ f, pt (F := F) c (Memref.whole cc1_scratch7) f))

/-- Everything at rest, dealt out, -/
theorem ends_of : iprop(reads c I ∗ sems0 c ∗ bufs c) ⊢ ends c I := by
  iintro ⟨⟨Hw, Ho, HM, Ht, Hb, Hl⟩, ⟨S0, S1, S2, S3, W0, W1, W2, W3, So⟩, B0, B1, B2, B3, B4, B5, B6, B7⟩
  ihave Hw := (w_split c I).1 $$ Hw
  icases Hw with ⟨Hd, T0, T1, T2, T3⟩
  ihave HB := (slots_of_whole c) $$ B4
  icases HB with ⟨X0, X1, X2, X3⟩
  isplitl [Ht S0 Hb S1]
  · isplitl [Ht]; · iexact Ht
    isplitl [S0]; · iexact S0
    isplitl [Hb] <;> iassumption
  isplitl [Hd]; · iexact Hd
  isplitl [B7 HM S2]
  · isplitl [B7]; · iexact B7
    isplitl [HM] <;> iassumption
  isplitl [B0]; · iexact B0
  isplitl [B3]; · iexact B3
  isplitl [B1]; · iexact B1
  isplitl [B2]; · iexact B2
  isplitl [X0 W0 T0]
  · isplitl [X0]; · iexact X0
    isplitl [W0] <;> iassumption
  isplitl [X1 W1 T1]
  · isplitl [X1]; · iexact X1
    isplitl [W1] <;> iassumption
  isplitl [X2 W2 T2]
  · isplitl [X2]; · iexact X2
    isplitl [W2] <;> iassumption
  isplitl [X3 W3 T3]
  · isplitl [X3]; · iexact X3
    isplitl [W3] <;> iassumption
  isplitl [Ho]; · iexact Ho
  isplitl [B5 Hl S3]
  · isplitl [B5]; · iexact B5
    isplitl [Hl] <;> iassumption
  isplitl [B6] <;> iassumption

/-- and gathered. -/
theorem of_ends : ends c I ⊢ iprop(reads c I ∗ sems0 c ∗ bufs c) := by
  iintro ⟨⟨Ht, S0, Hb, S1⟩, Hd, ⟨B7, HM, S2⟩, B0, B3, B1, B2, ⟨X0, W0, T0⟩, ⟨X1, W1, T1⟩, ⟨X2, W2, T2⟩, ⟨X3, W3, T3⟩, Ho, ⟨B5, Hl, S3⟩, B6, So⟩
  isplitl [Ht Hb Hd T0 T1 T2 T3 HM Ho Hl]
  · isplitl [Hd T0 T1 T2 T3]
    · iapply (w_split c I).2
      isplitl [Hd]; · iexact Hd
      isplitl [T0]; · iexact T0
      isplitl [T1]; · iexact T1
      isplitl [T2] <;> iassumption
    isplitl [Ho]; · iexact Ho
    isplitl [HM]; · iexact HM
    isplitl [Ht]; · iexact Ht
    isplitl [Hb] <;> iassumption
  isplitl [S0 S1 S2 S3 W0 W1 W2 W3 So]
  · isplitl [S0]; · iexact S0
    isplitl [S1]; · iexact S1
    isplitl [S2]; · iexact S2
    isplitl [S3]; · iexact S3
    isplitl [W0]; · iexact W0
    isplitl [W1]; · iexact W1
    isplitl [W2]; · iexact W2
    isplitl [W3] <;> iassumption
  isplitl [B0]; · iexact B0
  isplitl [B1]; · iexact B1
  isplitl [B2]; · iexact B2
  isplitl [B3]; · iexact B3
  isplitl [X0 X1 X2 X3]
  · iapply (whole_of_slots c)
    isplitl [X0]; · iexact X0
    isplitl [X1]; · iexact X1
    isplitl [X2] <;> iassumption
  isplitl [B5]; · iexact B5
  isplitl [B6] <;> iassumption

/-! ## The body at a point -/

variable (m : (ℓ : Loc nD τ sig) → Buf (Elt F) ℓ)

/-- A point's coordinates: its layer and its place in the layer. -/
theorem coords_at (t : Fin cfg1.N) (l : Fin 19) (j : Fin 12) (h : t.val = 12 * l.val + j.val) : grid1.coords t = at' l j := by
  have hj := j.isLt
  have hl := l.isLt
  funext a
  match a with
  | ⟨0, _⟩ =>
    refine Fin.ext ?_
    show t.val / 12 % 19 = l.val
    omega
  | ⟨1, _⟩ =>
    refine Fin.ext ?_
    show t.val / 1 % 12 = j.val
    omega

set_option maxHeartbeats 2000000 in
/-- The body at every point takes the invariant on. -/
theorem body1 : BodyObligation (dat1 m c) (defs₀ (F := F)) 𝒱₀ () Set.univ := fun t => by
  have ht : t.val < 228 := t.isLt
  have e := coords_at t ⟨t.val / 12, by omega⟩ ⟨t.val % 12, by omega⟩ (by show _ = 12 * (t.val / 12) + t.val % 12; omega)
  have hb : bodyAt1 (F := F) t = body ⟨t.val / 12, by omega⟩ ⟨t.val % 12, by omega⟩ := by
    unfold bodyAt1
    rw [body_steps, e]
  rw [show (dat1 m c).Φ t.castSucc = iprop(inv c (insOf m c) (12 * (t.val / 12) + t.val % 12) ∗ stgs c) from by
      rw [show 12 * (t.val / 12) + t.val % 12 = t.val by omega]; rfl,
    show (dat1 m c).Φ t.succ = iprop(inv c (insOf m c) (12 * (t.val / 12) + t.val % 12 + 1) ∗ stgs c) from by
      rw [show 12 * (t.val / 12) + t.val % 12 = t.val by omega]; rfl]
  unfold Dat.owesAt Pipeline.owesWithin
  rw [show (dat1 m c).owed t.castSucc = 0 from rfl, show (dat1 m c).owed t.succ = 0 from rfl]
  iintro ⟨⟨HΦ, Hs⟩, ⟨%W, %hW, HO⟩, He⟩
  iapply ((Entails.of_eq (congrArg (fun k => runs c k _) hb.symm)) : runs c (body ⟨t.val / 12, by omega⟩ ⟨t.val % 12, by omega⟩) _ ⊢ _)
  iapply (point_step c (insOf m c) _ _ _)
  isplitl [HΦ]; · iexact HΦ
  isplitl [HO]; · (iexists W; iexact HO)
  iintro ⟨HΦ, ⟨%W', HO⟩⟩
  isplitl [HΦ Hs]; · (isplitl [HΦ] <;> iassumption)
  isplitl [HO]
  · iexists W'; isplitr; · ipureintro; exact fun _ _ => Or.inl trivial
    iexact HO
  iexact He

/-! ## The launch's segment -/

/-- What the launch never touches. -/
abbrev kept : sProp 𝕄 :=
  iprop(pt c (Memref.whole main_arg0) (V1 m c main_arg0) ∗ pt c (Memref.whole main_arg3) (V1 m c main_arg3) ∗ pt c (Memref.whole main_arg4) (V1 m c main_arg4)
    ∗ pt c (Memref.whole main_arg5) (V1 m c main_arg5) ∗ pt c (Memref.whole main_arg6) (V1 m c main_arg6) ∗ pt c (Memref.whole main_v0) (V1 m c main_v0)
    ∗ pt c (Memref.whole main_v1) (V1 m c main_v1) ∗ pt c (Memref.whole main_v2) (V1 m c main_v2) ∗ pt c (Memref.whole main_v3) (V1 m c main_v3))

/-- A buffer's contents, equal contents put for them. -/
theorem pt_congr (b : Ref sig .tc) {f g : Buf (Elt F) ((c : Thread nD τ).loc b)} (h : f = g) :
    (((c : Thread nD τ).loc b) ↦{fullShare} f : sProp 𝕄) ⊢ (((c : Thread nD τ).loc b) ↦{fullShare} g) := by rw [h]

/-- The buffers outside any launch, sorted into what the layers read, their result and the rest, -/
theorem enter1 : (Pipeline.unscopedRest (Ix := Unit) (Name := ℕ) (U := UU nD τ) (Lvl := ℕ) cfg1.spec c (fun b => V2 m (outs m) c b) : sProp 𝕄)
    ⊢ iprop(reads c (insOf m c) ∗ (∃ f, pt (F := F) c (Memref.whole main_v5) f) ∗ kept c m) := by
  have a : ∀ r : Ref sig .tc, r ∉ ([main_v4_0, main_v4_1, main_v4_2] : List (Ref sig .tc)) → V2 m (outs m) c r = V1 m c r := V2_of m (outs m) c
  rw [unscopedRest1_eq]
  iintro ⟨A0, A1, A2, A3, A4, A5, A6, A7, B0, B1, B2, B3, C0, C1, C2, D⟩
  isplitl [A1 A2 A7 C0 C1 C2]
  · isplitl [A1]; · (iapply (pt_congr c main_arg1 (a main_arg1 (by decide))); iexact A1)
    isplitl [A2]; · (iapply (pt_congr c main_arg2 (a main_arg2 (by decide))); iexact A2)
    isplitl [A7]; · (iapply (pt_congr c main_arg7 (a main_arg7 (by decide))); iexact A7)
    isplitl [C0]; · (iapply (pt_congr c main_v4_0 (V2_v4_0 m c)); iexact C0)
    isplitl [C1]; · (iapply (pt_congr c main_v4_1 (V2_v4_1 m c)); iexact C1)
    iapply (pt_congr c main_v4_2 (V2_v4_2 m c)); iexact C2
  isplitl [D]; · (iexists _; iexact D)
  isplitl [A0]; · (iapply (pt_congr c main_arg0 (a main_arg0 (by decide))); iexact A0)
  isplitl [A3]; · (iapply (pt_congr c main_arg3 (a main_arg3 (by decide))); iexact A3)
  isplitl [A4]; · (iapply (pt_congr c main_arg4 (a main_arg4 (by decide))); iexact A4)
  isplitl [A5]; · (iapply (pt_congr c main_arg5 (a main_arg5 (by decide))); iexact A5)
  isplitl [A6]; · (iapply (pt_congr c main_arg6 (a main_arg6 (by decide))); iexact A6)
  isplitl [B0]; · (iapply (pt_congr c main_v0 (a main_v0 (by decide))); iexact B0)
  isplitl [B1]; · (iapply (pt_congr c main_v1 (a main_v1 (by decide))); iexact B1)
  isplitl [B2]; · (iapply (pt_congr c main_v2 (a main_v2 (by decide))); iexact B2)
  iapply (pt_congr c main_v3 (a main_v3 (by decide))); iexact B3

/-- and put back in order, the result written. -/
theorem leave1 : iprop(reads c (insOf m c) ∗ pt c (Memref.whole main_v5) (outOf m c) ∗ kept c m)
    ⊢ (Pipeline.unscopedRest (Ix := Unit) (Name := ℕ) (U := UU nD τ) (Lvl := ℕ) cfg1.spec c (fun b => V3 m (outs m) c b) : sProp 𝕄) := by
  have a : ∀ r : Ref sig .tc, r ∉ ([main_v4_0, main_v4_1, main_v4_2, main_v5] : List (Ref sig .tc)) → V1 m c r = V3 m (outs m) c r := fun r h =>
    ((V3_of m (outs m) c r h).trans (V2_of m (outs m) c r fun h' => h (by
      simp only [List.mem_cons, List.not_mem_nil, or_false] at h' ⊢; tauto))).symm
  rw [unscopedRest1_eq]
  iintro ⟨⟨A1, A2, A7, C0, C1, C2⟩, D, A0, A3, A4, A5, A6, B0, B1, B2, B3⟩
  isplitl [A0]; · (iapply (pt_congr c main_arg0 (a main_arg0 (by decide))); iexact A0)
  isplitl [A1]; · (iapply (pt_congr c main_arg1 (a main_arg1 (by decide))); iexact A1)
  isplitl [A2]; · (iapply (pt_congr c main_arg2 (a main_arg2 (by decide))); iexact A2)
  isplitl [A3]; · (iapply (pt_congr c main_arg3 (a main_arg3 (by decide))); iexact A3)
  isplitl [A4]; · (iapply (pt_congr c main_arg4 (a main_arg4 (by decide))); iexact A4)
  isplitl [A5]; · (iapply (pt_congr c main_arg5 (a main_arg5 (by decide))); iexact A5)
  isplitl [A6]; · (iapply (pt_congr c main_arg6 (a main_arg6 (by decide))); iexact A6)
  isplitl [A7]; · (iapply (pt_congr c main_arg7 (a main_arg7 (by decide))); iexact A7)
  isplitl [B0]; · (iapply (pt_congr c main_v0 (a main_v0 (by decide))); iexact B0)
  isplitl [B1]; · (iapply (pt_congr c main_v1 (a main_v1 (by decide))); iexact B1)
  isplitl [B2]; · (iapply (pt_congr c main_v2 (a main_v2 (by decide))); iexact B2)
  isplitl [B3]; · (iapply (pt_congr c main_v3 (a main_v3 (by decide))); iexact B3)
  isplitl [C0]; · (iapply (pt_congr c main_v4_0 (V3_v4_0 m c).symm); iexact C0)
  isplitl [C1]; · (iapply (pt_congr c main_v4_1 (V3_v4_1 m c).symm); iexact C1)
  isplitl [C2]; · (iapply (pt_congr c main_v4_2 (V3_v4_2 m c).symm); iexact C2)
  iapply (pt_congr c main_v5 (V3_v5 m c).symm); iexact D

set_option backward.isDefEq.respectTransparency.types false in
/-- The layers' segment. -/
def reg1 : RegionSeg (pcfgs (F := F)) adm (dats m) () defs₀ 𝒱₀ L lv 1 where
  win := launch1.win.to₀
  block_pos := launch1.block_pos
  stage_whole := launch1.stage_whole
  K := Fin 9
  osem := osem
  ho := ownSemFacts1
  hbody c := (body1 c m).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(reads c (insOf m c) ∗ (∃ f, pt (F := F) c (Memref.whole main_v5) f) ∗ sems0 c)
  Y c := iprop(reads c (insOf m c) ∗ pt c (Memref.whole main_v5) (outOf m c))
  Z c := kept c m
  hentry c := by
    rw [show StableHlo.held (c : Thread nD τ) (Pipeline.ucRefs τ sig) (V2 m (outs m) c) = unscopedBufs c (fun b => V2 m (outs m) c b) from (Pipeline.unscopedBufs_held c _).symm,
      ownSems0_eq]
    have hsplit := Pipeline.arrays_of_unscopedBufs (p := 1) (pcfgs (F := F)) adm (dats m) launch1.win launch1.arr_whole c
      ((dats m 1 c).share_full fun _ => rfl) (fun b => V2 m (outs m) c b) (fun w => w.elim0)
    iintro ⟨⟨Hub, HO⟩, HS, -⟩
    ihave H := hsplit $$ Hub
    icases H with ⟨Ha, Hr⟩
    ihave Hr := (enter1 c m) $$ Hr
    icases Hr with ⟨Hr, Hv, Hk⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hr Hv HS]
    · isplitl [Hr]; · iexact Hr
      isplitl [Hv] <;> iassumption
    iexact Hk
  hin c := by
    rw [show (dats m 1 c).Φ 0 = iprop(inv c (insOf m c) 0 ∗ stgs c) from rfl, inv_zero,
      show Pipeline.scopedRest (Ix := Unit) (Name := ℕ) (U := UU nD τ) (Lvl := ℕ) (Val := Elt F) (Pipeline.pin (pcfgs (F := F)) adm 1).spec c
        = Pipeline.scopedRest (Ix := Unit) (Name := ℕ) (U := UU nD τ) (Lvl := ℕ) (Val := Elt F) cfg1.spec c from rfl, scopedRest1_eq]
    iintro ⟨⟨Hr, Hv, HS⟩, -, S0, S1, S2, S3, S4, S5, S6, S7, S8, HB⟩
    isplitl [Hr Hv HS HB]
    · isplitl [Hr HS HB]
      · iapply (ends_of c (insOf m c))
        isplitl [Hr]; · iexact Hr
        isplitl [HS] <;> iassumption
      iexact Hv
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7] <;> iassumption
  hout c := by
    rw [ownSems0_eq, show (dats m 1 c).Φ (Fin.last (Pipeline.pin pcfgs adm 1).N) = iprop(inv c (insOf m c) 228 ∗ stgs c) from rfl, inv_last,
      show Pipeline.scopedRest (Ix := Unit) (Name := ℕ) (U := UU nD τ) (Lvl := ℕ) (Val := Elt F) (Pipeline.pin (pcfgs (F := F)) adm 1).spec c
        = Pipeline.scopedRest (Ix := Unit) (Name := ℕ) (U := UU nD τ) (Lvl := ℕ) (Val := Elt F) cfg1.spec c from rfl, scopedRest1_eq]
    iintro ⟨⟨He, Hv⟩, S0, S1, S2, S3, S4, S5, S6, S7, S8⟩
    ihave He := (of_ends c (insOf m c)) $$ He
    icases He with ⟨Hr, HS, HB⟩
    isplitl [Hr Hv]; · (isplitl [Hr]; (· iexact Hr); iexact Hv)
    isplitl [HS]; · iexact HS
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8] <;> iassumption
  hexit c := by
    rw [show StableHlo.held (c : Thread nD τ) (Pipeline.ucRefs τ sig) (V3 m (outs m) c) = unscopedBufs c (fun b => V3 m (outs m) c b) from (Pipeline.unscopedBufs_held c _).symm]
    have hjoin := Pipeline.unscopedBufs_of_arrays (p := 1) (pcfgs (F := F)) adm launch1.win launch1.arr_whole c (dats m)
      ((dats m 1 c).share_full fun _ => rfl) (fun b => V3 m (outs m) c b) (fun b => V3 m (outs m) c b) ((dats m 1 c).arrAt · cfg1.N)
      (fun w => w.elim0) (fun _ _ => rfl)
    iintro ⟨Ha, HO, ⟨Hr, Hv⟩, HZ⟩
    imodintro
    isplitr [HO]
    · iapply hjoin
      isplitl [Ha]; · iexact Ha
      iapply (leave1 c m)
      isplitl [Hr]; · iexact Hr
      isplitl [Hv] <;> iassumption
    · unfold Pipeline.Dat.owesAt Pipeline.owesWithin
      icases HO with ⟨%W, -, HO⟩; iexists W; iexact HO

end Cert.Proof

end
-- ==== Proof.Run.lean ====
/-
  The program's run: the arguments end as launched, the semaphores at zero, the result the decoder's values.
-/
module

public import proofs.«01_k».proof.Proof.Region0
public import proofs.«01_k».proof.Proof.Region1
public import proofs.«01_k».proof.Proof.Gen.KernelIdeal.Regions

@[expose] public section

noncomputable section

namespace Cert.Proof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation Seg cellOf RegionSeg)

variable {F : FTy → Type} [FloatOps F]

local notation "𝕄" => MT nD τ sig Unit (Elt F) ℕ (UU nD τ) ℕ

/-- What the run leaves on core `c`: the arguments as launched and the result. -/
def Left (m : (ℓ : Loc nD τ sig) → Buf (Elt F) ℓ) (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_v5) = outOf m c

/-- The protocol's resource at launch. -/
def u₀ : UU nD τ := (initOf (Pipeline.cells cfgs cellOf_inj) (Pipeline.launchToks cfgs cellOf_inj), 1)

theorem launch_res : (ownU u₀ : sProp 𝕄)
    ⊢ |={Set.univ}=> iprop(BI.own ((embL : Emb (URounds (GSem nD τ sig) Unit) 𝕄) (initOf (Pipeline.cells cfgs cellOf_inj) (Pipeline.launchToks cfgs cellOf_inj)))
        ∗ bigSep Finset.univ fun _ : Dev nD => (BI.emp : sProp 𝕄)) := by
  unfold u₀
  iintro Hu
  ihave H := (ownU_pair _ _) $$ Hu
  icases H with ⟨HP, -⟩
  imodintro
  isplitl [HP]
  · iexact HP
  · iapply (show (BI.emp : sProp 𝕄) ⊢ bigSep Finset.univ (fun _ : Dev nD => (BI.emp : sProp 𝕄)) from by rw [BI.bigSep_emp_const])
    iempintro

variable (m : (ℓ : Loc nD τ sig) → Buf (Elt F) ℓ) (ρ : Dev nD → PrngReg)

/-- The program's items. -/
abbrev items : Dev nD → List (Seg (pcfgs (F := F)) adm (dats m) () defs₀ 𝒱₀ L lv) :=
  segs m 𝒱₀ L lv (fun _ => R) () (dats m) (reg0 m) (reg1 m)

set_option maxHeartbeats 2000000 in
set_option backward.isDefEq.respectTransparency.types false in
/-- Every run of the program from `m` leaves the arguments, the result and the semaphores so. -/
theorem run : θ_run defs (onTc (τ := τ) (main (F := F))) ⟨m, fun _ => 0, ρ⟩ (fun r => (∀ c : Dev nD, Left m c r.2.mem) ∧ r.2.sem = fun _ => 0) := by
  refine Pipeline.θ_run_regions_kit_dev_sems (pcfgs (F := F)) adm (dats m) () cellOf_inj (embL : Emb (URounds (GSem nD τ sig) Unit) 𝕄) defs₀ 𝒱₀ L lv m ρ main
    (items m)
    (fun c Q => by
      rewrite [main_chain c, Seg.run_eq_chain,
        show (items m c).map Seg.prog = [StableHlo.seq hostOps0, Prog.lift (.customCall (Pipeline.entry 0) ()), Prog.lift (.customCall (Pipeline.entry 1) ())] from rfl]
      dsimp (config := { failIfUnchanged := false }) only
      exact .rfl)
    (fun c => by simp only [segs, Seg.pipes_host, Seg.pipes_region, Seg.pipes_nil]; decide) (fun _ => 0) (fun _ _ => rfl) (fun _ => BI.emp) u₀ launch_res
    (T₀ := fun c => iprop(StableHlo.held (c : Thread nD τ) (Pipeline.ucRefs τ sig) (V0 m c) ∗ R c))
    (Tₙ := fun c => StableHlo.held (c : Thread nD τ) (Pipeline.ucRefs τ sig) (V3 m (outs m) c))
    (hch := fun c => ⟨.rfl, .rfl, .rfl, .rfl⟩)
    (hinit := ?_) (QY := fun c s => Left m c s.mem)
    (hfin := fun c s' => ?_) (hQ := fun _ h hz => ⟨h, funext fun g => hz g (.inr (regions_no_unscoped g.2))⟩)
  · have h1 : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄))
        ⊢ iprop(StableHlo.held (c : Thread nD τ) (Pipeline.ucRefs τ sig) (V0 m c) ∗ R c) := fun c => by
      rw [← Pipeline.unscopedBufs_held (Ix := Unit) (Name := ℕ) (U := UU nD τ) (Lvl := ℕ) c (V0 m c)]
      iintro ⟨Hb, -, HO, -, -, -⟩
      isplitl [Hb]; · iexact Hb
      iexists ∅; iexact HO
    iintro ⟨H, -⟩
    imodintro
    iapply (show (bigSep Finset.univ _ : sProp 𝕄) ⊢ bigSep Finset.univ _ from bigSep_mono fun c _ => h1 c)
    iexact H
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        (h (Proc.devRef .tc main_arg5) (Finset.mem_filter.mpr ⟨StableHlo.devRef_mem_tcRefs main_arg5, by decide⟩)).trans (V3_main_arg5 m (outs m) c),
        (h (Proc.devRef .tc main_arg6) (Finset.mem_filter.mpr ⟨StableHlo.devRef_mem_tcRefs main_arg6, by decide⟩)).trans (V3_main_arg6 m (outs m) c),
        (h (Proc.devRef .tc main_arg7) (Finset.mem_filter.mpr ⟨StableHlo.devRef_mem_tcRefs main_arg7, by decide⟩)).trans (V3_main_arg7 m (outs m) c),
        (h (Proc.devRef .tc main_v5) (Finset.mem_filter.mpr ⟨StableHlo.devRef_mem_tcRefs main_v5, by decide⟩)).trans (V3_v5 m c)⟩
    · iexact HSI

end Cert.Proof

end
-- ==== Proof.Frame.lean ====
/-
  The frames of the kernel's two readings, and what a run over the reals leaves.
-/
module

public import proofs.«01_k».proof.Proof.Run
public import proofs.«01_k».proof.Proof.Gen.Kernel.Skeleton
public import proofs.«01_k».proof.Defs

@[expose] public section

namespace Cert.Proof

open Idealize.ShloMosaic
open Idealize.SL Idealize.SL.Sem

attribute [local instance] Cert.Kernel.Gen.facts Cert.KernelIdeal.Gen.facts

variable {F : FTy → Type} [FloatOps F]

set_option maxRecDepth 65536
set_option maxHeartbeats 2000000

/-- The two printed programs are one text: their @main, -/
theorem main_same : Cert.Kernel.main (F := F) = Cert.KernelIdeal.main (F := F) := rfl

/-- their kernels' bodies, -/
theorem bodies_same : Cert.Kernel.defs₀ (F := F) = Cert.KernelIdeal.defs₀ (F := F) := by
  unfold Cert.Kernel.defs₀ Cert.KernelIdeal.defs₀
  congr 1
  funext l a
  match l, a with
  | 0, (t, s) => rfl
  | 1, (t, s) => rfl

/-- and what a call runs. -/
theorem defs_same : Cert.Kernel.defs (F := F) = Cert.KernelIdeal.defs (F := F) := by
  show Pipeline.defs _ _ = Pipeline.defs _ _
  rw [bodies_same]

/-- The kernel as printed: every run ends, its arguments as launched and its semaphores at zero. -/
theorem frame_kernel : Cert.quiescent_Kernel := fun m g _ => by
  have h := run (F := Bits) m g
  rw [← main_same, ← defs_same] at h
  refine (θ_run _ _ _).mono ?_ h
  rintro r ⟨h, hs⟩
  exact ⟨fun c => let ⟨a0, a1, a2, a3, a4, a5, a6, a7, _⟩ := h c; ⟨a0, a1, a2, a3, a4, a5, a6, a7⟩, hs⟩

/-- The same of its reading over the reals. -/
theorem frame_ideal : Cert.quiescent_KernelIdeal := fun m g _ => by
  refine (θ_run _ _ _).mono ?_ (run (F := Ideal) m g)
  rintro r ⟨h, hs⟩
  exact ⟨fun c => let ⟨a0, a1, a2, a3, a4, a5, a6, a7, _⟩ := h c; ⟨a0, a1, a2, a3, a4, a5, a6, a7⟩, hs⟩

end Cert.Proof

end
-- ==== Proof.RefOps.lean ====
/-
  The reference's operations as lists: the straight stretches before, within and after its loop.
-/
module

public import proofs.«01_k».proof.ReferenceIdeal
public import Idealize.ShloMosaic.Lib.StableHlo.RunLoop
public import Idealize.ShloMosaic.Lib.StableHlo.RunRead
public import Idealize.ShloMosaic.Lib.Pipeline.RegionsLoop
public import Idealize.ShloMosaic.Lib.Scf.ExitTest
public import Idealize.ShloMosaic.Lib.Scf.Counter

@[expose] public section

noncomputable section

namespace Cert.Proof.Ref

open Cert.ReferenceIdeal Cert.ReferenceIdeal.Facts₀ Cert.ReferenceIdeal.Facts
open Idealize.ShloMosaic Idealize.ShloMosaic.StableHlo

/-- The shape relations the reference's operations ask for. -/
theorem facts : Cert.ReferenceIdeal.Facts where
  bcast_S_S256x768 := by decide
  transposes_S3072x768_S768x3072_1_0 := by decide
  bcast_S_S256x3072 := by decide
  slices_S20x768x768_S19x768x768_0_0_0 := by decide
  sliceFits_S19x3072x3072_S1x3072x3072 := by decide
  h_S_ := by decide
  shapeCasts_S1x3072x3072_S3072x3072 := by decide
  sliceFits_S19x768x768_S1x768x768 := by decide
  shapeCasts_S1x768x768_S768x768 := by decide
  transposes_S3072x3072_S3072x3072_1_0 := by decide
  transposes_S768x3072_S3072x768_1_0 := by decide
  slices_S20x768x768_S1x768x768_19_0_0 := by decide
  dot_S256x768_S768x3072_S256x3072_1_0_0_1_n_n_wf := by decide
  dot_S256x3072_S3072x3072_S256x3072_1_0_0_1_n_n_wf := by decide
  dot_S256x768_S768x768_S256x768_1_0_0_1_n_n_wf := by decide
  dot_S256x3072_S3072x768_S256x768_1_0_0_1_n_n_wf := by decide
  main_while0_ok := by decide

attribute [local instance] facts

variable {F : FTy → Type} [FloatOps F]

/-- The called function's operations: elements of one array where a mask holds, a constant elsewhere: over the variables. -/
abbrev whereAOps (arg0 : TRef sig ⟨S256x768, .i1⟩) (arg1 : TRef sig ⟨S256x768, .f32⟩) (arg2 : TRef sig ⟨S_, .f32⟩) (φ : fn_where.Bufs) : List (HloOp τ sig (Elt F)) :=
  [ TRef.unary arg2 φ.v0 id,
    TRef.unary φ.v0 φ.v1 (broadcastInDim S256x768 ![] bcast_S_S256x768),
    TRef.ternary arg0 arg1 φ.v1 φ.v2 select ]

/-- The called function's operations: the same against a second array. -/
abbrev whereBOps (arg0 : TRef sig ⟨S256x3072, .i1⟩) (arg1 : TRef sig ⟨S256x3072, .f32⟩) (arg2 : TRef sig ⟨S256x3072, .f32⟩) (φ : fn_where_0.Bufs) : List (HloOp τ sig (Elt F)) :=
  [ TRef.ternary arg0 arg1 arg2 φ.v0 select ]

/-- The called function's operations: the same against a constant, over the edges. -/
abbrev whereCOps (arg0 : TRef sig ⟨S256x3072, .i1⟩) (arg1 : TRef sig ⟨S256x3072, .f32⟩) (arg2 : TRef sig ⟨S_, .f32⟩) (φ : fn_where_2.Bufs) : List (HloOp τ sig (Elt F)) :=
  [ TRef.unary arg2 φ.v0 id,
    TRef.unary φ.v0 φ.v1 (broadcastInDim S256x3072 ![] bcast_S_S256x3072),
    TRef.ternary arg0 arg1 φ.v1 φ.v2 select ]

/-- The called function's operations: the floor remainder by a constant. -/
abbrev remainderOps (arg0 : TRef sig ⟨S256x3072, .f32⟩) (arg1 : TRef sig ⟨S_, .f32⟩) (φ : fn_remainder.Bufs) : List (HloOp τ sig (Elt F)) :=
  [ TRef.unary arg1 φ.v0 id,
    TRef.unary φ.v0 φ.v1 (broadcastInDim S256x3072 ![] bcast_S_S256x3072),
    TRef.binary arg0 φ.v1 φ.v2 Host.remf,
    TRef.nullary φ.cst (constant S_ .f32 0x00000000#32),
    TRef.unary φ.cst φ.v3 (broadcastInDim S256x3072 ![] bcast_S_S256x3072),
    TRef.binary φ.v2 φ.v3 φ.v4 (cmpf .une),
    TRef.nullary φ.cst_0 (constant S_ .f32 0x00000000#32),
    TRef.unary φ.cst_0 φ.v5 (broadcastInDim S256x3072 ![] bcast_S_S256x3072),
    TRef.binary φ.v2 φ.v5 φ.v6 (cmpf .olt),
    TRef.nullary φ.cst_1 (constant S_ .f32 0x00000000#32),
    TRef.binary φ.v0 φ.cst_1 φ.v7 (cmpf .olt),
    TRef.unary φ.v7 φ.v8 (broadcastInDim S256x3072 ![] bcast_S_S256x3072),
    TRef.binary φ.v6 φ.v8 φ.v9 (cmpi .ne),
    TRef.binary φ.v9 φ.v4 φ.v10 andi,
    TRef.unary φ.v0 φ.v11 (broadcastInDim S256x3072 ![] bcast_S_S256x3072),
    TRef.binary φ.v2 φ.v11 φ.v12 addf,
    TRef.ternary φ.v10 φ.v12 φ.v2 φ.v13 select ]

/-- The called function's operations: the clip to two bounds. -/
abbrev clipOps (arg0 : TRef sig ⟨S256x3072, .f32⟩) (arg1 : TRef sig ⟨S_, .f32⟩) (arg2 : TRef sig ⟨S_, .f32⟩) (φ : fn_clip.Bufs) : List (HloOp τ sig (Elt F)) :=
  [ TRef.unary arg1 φ.v0 id,
    TRef.unary φ.v0 φ.v1 (broadcastInDim S256x3072 ![] bcast_S_S256x3072),
    TRef.binary φ.v1 arg0 φ.v2 maximumf,
    TRef.unary arg2 φ.v3 id,
    TRef.unary φ.v3 φ.v4 (broadcastInDim S256x3072 ![] bcast_S_S256x3072),
    TRef.binary φ.v4 φ.v2 φ.v5 minimumf ]

/-- The called function's operations: one layer's weights. -/
abbrev pickWOps (arg0 : TRef sig ⟨S19x3072x3072, .f32⟩) (arg1 : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.unaryIndexed arg0 ![arg1, φ.c, φ.c_0] φ.v0 (fun x i => Host.dynamicSlice S1x3072x3072 x (fun k => (i k (Shape.Idx.first h_S_)).toInt) sliceFits_S19x3072x3072_S1x3072x3072),
    TRef.reshape φ.v0 φ.v1 (rfl : (.f32 : EltTy) = .f32) shapeCasts_S1x3072x3072_S3072x3072 ]

/-- The called function's operations: one layer's channel matrix. -/
abbrev pickSOps (arg0 : TRef sig ⟨S19x768x768, .f32⟩) (arg1 : TRef sig ⟨S_, .i32⟩) (φ : fn_dynamic_index_in_dim_1.Bufs) : List (HloOp τ sig (Elt F)) :=
  [ TRef.nullary φ.c (constantI S_ 32 0#32),
    TRef.nullary φ.c_0 (constantI S_ 32 0#32),
    TRef.unaryIndexed arg0 ![arg1, φ.c, φ.c_0] φ.v0 (fun x i => Host.dynamicSlice S1x768x768 x (fun k => (i k (Shape.Idx.first h_S_)).toInt) sliceFits_S19x768x768_S1x768x768),
    TRef.reshape φ.v0 φ.v1 (rfl : (.f32 : EltTy) = .f32) shapeCasts_S1x768x768_S768x768 ]

/-! Before the loop: the stretches between the calls, then the whole. -/

abbrev pre0 : List (HloOp τ sig (Elt F)) :=
  [ nullary main_cst (constant S_ .f32 0x3F000000#32),
    unary main_cst main_v0 (broadcastInDim S256x768 ![] bcast_S_S256x768),
    binary main_v0 main_arg0 main_v1 mulf,
    unary main_v1 main_v2 Host.tanh,
    nullary main_cst_0 (constant S_ .f32 0x00000000#32),
    unary main_cst_0 main_v3 (broadcastInDim S256x768 ![] bcast_S_S256x768),
    binary main_v2 main_v3 main_v4 (cmpf .une),
    nullary main_cst_1 (constant S_ .f32 0x3F800000#32) ]

abbrev pre1 : List (HloOp τ sig (Elt F)) :=
  [ unary main_v5 main_v6 Host.absf,
    unary main_v6 main_v7 Host.log,
    unary main_arg6 main_v8 (transpose S768x3072 [1, 0] · transposes_S3072x768_S768x3072_1_0),
    binary main_v7 main_v8 main_v9 (fun l r => Host.dotGeneral dot_S256x768_S768x3072_S256x3072_1_0_0_1_n_n none l r),
    nullary main_cst_2 (constant S_ .f32 0x00000000#32),
    unary main_cst_2 main_v10 (broadcastInDim S256x768 ![] bcast_S_S256x768),
    binary main_v2 main_v10 main_v11 (cmpf .olt),
    unary main_v11 main_v12 (uitofp .f32),
    unary main_arg6 main_v13 (transpose S768x3072 [1, 0] · transposes_S3072x768_S768x3072_1_0),
    binary main_v12 main_v13 main_v14 (fun l r => Host.dotGeneral dot_S256x768_S768x3072_S256x3072_1_0_0_1_n_n none l r),
    unary main_v4 main_v15 (uitofp .f32),
    unary main_arg6 main_v16 (transpose S768x3072 [1, 0] · transposes_S3072x768_S768x3072_1_0),
    binary main_v15 main_v16 main_v17 (fun l r => Host.dotGeneral dot_S256x768_S768x3072_S256x3072_1_0_0_1_n_n none l r),
    unary main_v9 main_v18 Host.exp,
    nullary main_cst_3 (constant S_ .f32 0x40000000#32) ]

abbrev pre2 : List (HloOp τ sig (Elt F)) :=
  [ nullary main_cst_4 (constant S_ .f32 0x40000000#32),
    unary main_cst_4 main_v20 (broadcastInDim S256x3072 ![] bcast_S_S256x3072),
    binary main_v20 main_v19 main_v21 mulf,
    nullary main_cst_5 (constant S_ .f32 0x3F800000#32),
    unary main_cst_5 main_v22 (broadcastInDim S256x3072 ![] bcast_S_S256x3072),
    binary main_v22 main_v21 main_v23 subf,
    binary main_v18 main_v23 main_v24 mulf,
    nullary main_cst_6 (constant S_ .f32 0x00000000#32),
    unary main_cst_6 main_v25 (broadcastInDim S256x3072 ![] bcast_S_S256x3072),
    binary main_v17 main_v25 main_v26 (cmpf .ogt),
    nullary main_cst_7 (constant S_ .f32 0x00000000#32),
    unary main_cst_7 main_v27 (broadcastInDim S256x3072 ![] bcast_S_S256x3072) ]

abbrev pre3 : List (HloOp τ sig (Elt F)) :=
  [ unary main_arg3 main_v29 (extractStridedSlice S19x768x768 ![0, 0, 0] · slices_S20x768x768_S19x768x768_0_0_0),
    nullary main_c (constantI S_ 32 0#32),
    unary main_arg1 main_v30_0 id,
    unary main_v29 main_v30_1 id,
    unary main_arg0 main_v30_2 id,
    unary main_arg4 main_v30_3 id,
    unary main_arg7 main_v30_4 id,
    unary main_c main_v30_5 id,
    unary main_v28 main_v30_6 id ]

abbrev preI : List (List (HloOp τ sig (Elt F))) :=
  [pre0,
   whereAOps (.of main_v4) (.of main_v2) (.of main_cst_1) main_call0,
   pre1,
   remainderOps (.of main_v14) (.of main_cst_3) main_call1,
   pre2,
   whereBOps (.of main_v26) (.of main_v24) (.of main_v27) main_call2,
   pre3]

/-! One trip of the loop. -/

abbrev body0 : List (HloOp τ sig (Elt F)) :=
  [ nullary main_while0b_cst_19 (constant S_ .f32 0xBF7FFFEF#32),
    nullary main_while0b_cst_20 (constant S_ .f32 0x3F7FFFEF#32) ]

abbrev body1 : List (HloOp τ sig (Elt F)) :=
  [ unary main_while0b_v50 main_while0b_v51 Host.atanh,
    nullary main_while0b_cst_21 (constant S_ .f32 0x40000000#32),
    unary main_while0b_cst_21 main_while0b_v52 (broadcastInDim S256x3072 ![] bcast_S_S256x3072),
    binary main_while0b_v52 main_while0b_v51 main_while0b_v53 mulf,
    unary main_while0b_v48 main_while0b_v54 (transpose S3072x3072 [1, 0] · transposes_S3072x3072_S3072x3072_1_0),
    binary main_while0b_v53 main_while0b_v54 main_while0b_v55 (fun l r => Host.dotGeneral dot_S256x3072_S3072x3072_S256x3072_1_0_0_1_n_n none l r),
    binary main_v30_2 main_while0b_v49 main_while0b_v56 (fun l r => Host.dotGeneral dot_S256x768_S768x768_S256x768_1_0_0_1_n_n none l r),
    binary main_while0b_v56 main_v30_3 main_while0b_v57 (fun l r => Host.dotGeneral dot_S256x768_S768x3072_S256x3072_1_0_0_1_n_n none l r),
    binary main_while0b_v55 main_while0b_v57 main_while0b_v58 addf,
    nullary main_while0b_cst_22 (constant S_ .f32 0x3F000000#32),
    unary main_while0b_cst_22 main_while0b_v59 (broadcastInDim S256x3072 ![] bcast_S_S256x3072),
    binary main_while0b_v59 main_while0b_v58 main_while0b_v60 mulf,
    unary main_while0b_v60 main_while0b_v61 Host.tanh,
    nullary main_while0b_cst_23 (constant S_ .f32 0x00000000#32),
    unary main_while0b_cst_23 main_while0b_v62 (broadcastInDim S256x3072 ![] bcast_S_S256x3072),
    binary main_while0b_v61 main_while0b_v62 main_while0b_v63 (cmpf .une),
    nullary main_while0b_cst_24 (constant S_ .f32 0x3F800000#32) ]

abbrev body2 : List (HloOp τ sig (Elt F)) :=
  [ unary main_while0b_v64 main_while0b_v65 Host.absf,
    unary main_while0b_v65 main_while0b_v66 Host.log,
    unary main_v30_4 main_while0b_v67 (transpose S3072x3072 [1, 0] · transposes_S3072x3072_S3072x3072_1_0),
    binary main_while0b_v66 main_while0b_v67 main_while0b_v68 (fun l r => Host.dotGeneral dot_S256x3072_S3072x3072_S256x3072_1_0_0_1_n_n none l r),
    nullary main_while0b_cst_25 (constant S_ .f32 0x00000000#32),
    unary main_while0b_cst_25 main_while0b_v69 (broadcastInDim S256x3072 ![] bcast_S_S256x3072),
    binary main_while0b_v61 main_while0b_v69 main_while0b_v70 (cmpf .olt),
    unary main_while0b_v70 main_while0b_v71 (uitofp .f32),
    unary main_v30_4 main_while0b_v72 (transpose S3072x3072 [1, 0] · transposes_S3072x3072_S3072x3072_1_0),
    binary main_while0b_v71 main_while0b_v72 main_while0b_v73 (fun l r => Host.dotGeneral dot_S256x3072_S3072x3072_S256x3072_1_0_0_1_n_n none l r),
    unary main_while0b_v63 main_while0b_v74 (uitofp .f32),
    unary main_v30_4 main_while0b_v75 (transpose S3072x3072 [1, 0] · transposes_S3072x3072_S3072x3072_1_0),
    binary main_while0b_v74 main_while0b_v75 main_while0b_v76 (fun l r => Host.dotGeneral dot_S256x3072_S3072x3072_S256x3072_1_0_0_1_n_n none l r),
    unary main_while0b_v68 main_while0b_v77 Host.exp,
    nullary main_while0b_cst_26 (constant S_ .f32 0x40000000#32) ]

abbrev body3 : List (HloOp τ sig (Elt F)) :=
  [ nullary main_while0b_cst_27 (constant S_ .f32 0x40000000#32),
    unary main_while0b_cst_27 main_while0b_v79 (broadcastInDim S256x3072 ![] bcast_S_S256x3072),
    binary main_while0b_v79 main_while0b_v78 main_while0b_v80 mulf,
    nullary main_while0b_cst_28 (constant S_ .f32 0x3F800000#32),
    unary main_while0b_cst_28 main_while0b_v81 (broadcastInDim S256x3072 ![] bcast_S_S256x3072),
    binary main_while0b_v81 main_while0b_v80 main_while0b_v82 subf,
    binary main_while0b_v77 main_while0b_v82 main_while0b_v83 mulf,
    nullary main_while0b_cst_29 (constant S_ .f32 0x00000000#32),
    unary main_while0b_cst_29 main_while0b_v84 (broadcastInDim S256x3072 ![] bcast_S_S256x3072),
    binary main_while0b_v76 main_while0b_v84 main_while0b_v85 (cmpf .ogt),
    nullary main_while0b_cst_30 (constant S_ .f32 0x00000000#32),
    unary main_while0b_cst_30 main_while0b_v86 (broadcastInDim S256x3072 ![] bcast_S_S256x3072) ]

abbrev body4 : List (HloOp τ sig (Elt F)) :=
  [ nullary main_while0b_c_31 (constantI S_ 32 1#32),
    binary main_v30_5 main_while0b_c_31 main_while0b_v88 addi,
    unary main_while0b_v88 main_v30_5 id,
    unary main_while0b_v87 main_v30_6 id ]

abbrev tailI : List (List (HloOp τ sig (Elt F))) :=
  [body0,
   clipOps (.of main_v30_6) (.of main_while0b_cst_19) (.of main_while0b_cst_20) main_while0b_call5,
   body1,
   whereCOps (.of main_while0b_v63) (.of main_while0b_v61) (.of main_while0b_cst_24) main_while0b_call6,
   body2,
   remainderOps (.of main_while0b_v73) (.of main_while0b_cst_26) main_while0b_call7,
   body3,
   whereBOps (.of main_while0b_v85) (.of main_while0b_v83) (.of main_while0b_v86) main_while0b_call8,
   body4]

abbrev bodyI : List (List (HloOp τ sig (Elt F))) :=
  pickWOps (.of main_v30_0) (.of main_v30_5) main_while0b_call3
    :: pickSOps (.of main_v30_1) (.of main_v30_5) main_while0b_call4 :: tailI

/-! After the loop. -/

abbrev post0 : List (HloOp τ sig (Elt F)) :=
  [ nullary main_cst_8 (constant S_ .f32 0xBF7FFFEF#32),
    nullary main_cst_9 (constant S_ .f32 0x3F7FFFEF#32) ]

abbrev post1 : List (HloOp τ sig (Elt F)) :=
  [ unary main_v31 main_v32 Host.atanh,
    nullary main_cst_10 (constant S_ .f32 0x40000000#32),
    unary main_cst_10 main_v33 (broadcastInDim S256x3072 ![] bcast_S_S256x3072),
    binary main_v33 main_v32 main_v34 mulf,
    unary main_arg2 main_v35 (transpose S3072x768 [1, 0] · transposes_S768x3072_S3072x768_1_0),
    binary main_v34 main_v35 main_v36 (fun l r => Host.dotGeneral dot_S256x3072_S3072x768_S256x768_1_0_0_1_n_n none l r),
    unary main_arg3 main_v37 (extractStridedSlice S1x768x768 ![19, 0, 0] · slices_S20x768x768_S1x768x768_19_0_0),
    reshape main_v37 main_v38 (rfl : (.f32 : EltTy) = .f32) shapeCasts_S1x768x768_S768x768,
    binary main_arg0 main_v38 main_v39 (fun l r => Host.dotGeneral dot_S256x768_S768x768_S256x768_1_0_0_1_n_n none l r),
    binary main_v39 main_arg5 main_v40 (fun l r => Host.dotGeneral dot_S256x768_S768x768_S256x768_1_0_0_1_n_n none l r),
    binary main_v36 main_v40 main_v41 addf,
    unary main_v41 main_v42 Host.negf,
    unary main_v42 main_v43 Host.exp,
    nullary main_cst_11 (constant S_ .f32 0x3F800000#32),
    unary main_cst_11 main_v44 (broadcastInDim S256x768 ![] bcast_S_S256x768),
    binary main_v44 main_v43 main_v45 addf,
    nullary main_cst_12 (constant S_ .f32 0x3F800000#32),
    unary main_cst_12 main_v46 (broadcastInDim S256x768 ![] bcast_S_S256x768),
    binary main_v46 main_v45 main_v47 Host.divf ]

abbrev postI : List (List (HloOp τ sig (Elt F))) :=
  [post0,
   clipOps (.of main_v30_6) (.of main_cst_8) (.of main_cst_9) main_call9,
   post1]

/-- The loop's condition: its bound, and the counter compared with it. -/
abbrev condOps : List (HloOp τ sig (Elt F)) :=
  [ nullary main_while0c_c_19 (constantI S_ 32 19#32),
    binary main_v30_5 main_while0c_c_19 main_while0c_v48 (cmpi .slt) ]

/-- @main is these stretches about the loop, -/
theorem main_eq (c : Dev nD) : main (F := F) c
    = Pipeline.chain (preI.map (fun ops => (seq ops : Idealize.SL.Sem.Prog _ PUnit)) ++ HostLoop.enter 0 :: postI.map fun ops => (seq ops : Idealize.SL.Sem.Prog _ PUnit)) := by
  chain_rfl

/-- and the loop's body its own. -/
theorem body_eq : main_while0_body (F := F)
    = Pipeline.chain (bodyI.map fun ops => (seq ops : Idealize.SL.Sem.Prog _ PUnit)) := by
  chain_rfl

end Cert.Proof.Ref

end
-- ==== Proof.RefRead.lean ====
/-
  What the reference's stretches compute, as functions of the arrays they read.
-/
module

public import proofs.«01_k».proof.Proof.RefOps

@[expose] public section

noncomputable section

namespace Cert.Proof.Ref

open Cert.ReferenceIdeal Cert.ReferenceIdeal.Facts₀ Cert.ReferenceIdeal.Facts
open Idealize.ShloMosaic Idealize.ShloMosaic.StableHlo Idealize.ShloMosaic.TcCoe

attribute [local instance] facts

variable {F : FTy → Type} [FloatOps F]

/-- A constant over the edges, and one over the variables. -/
abbrev edgeC (n : BitVec 32) : FVec F S256x3072 .f32 := broadcastInDim S256x3072 ![] bcast_S_S256x3072 (constant S_ .f32 n)
abbrev varC (n : BitVec 32) : FVec F S256x768 .f32 := broadcastInDim S256x768 ![] bcast_S_S256x768 (constant S_ .f32 n)

/-- The floor remainder by 2. -/
def rem2 (x : FVec F S256x3072 .f32) : FVec F S256x3072 .f32 :=
  select (andi (cmpi .ne (cmpf .olt (Host.remf x (edgeC 0x40000000#32)) (edgeC 0x00000000#32))
      (broadcastInDim S256x3072 ![] bcast_S_S256x3072
        (cmpf .olt (constant S_ .f32 0x40000000#32 : FVec F S_ .f32) (constant S_ .f32 0x00000000#32))))
      (cmpf .une (Host.remf x (edgeC 0x40000000#32)) (edgeC 0x00000000#32)))
    (addf (Host.remf x (edgeC 0x40000000#32)) (edgeC 0x40000000#32)) (Host.remf x (edgeC 0x40000000#32))

/-- A product of messages from the sum of their logarithms, the count of negative ones and the count of
    nonzero ones: zero where there is none. -/
def combine (lg neg cnt : FVec F S256x3072 .f32) : FVec F S256x3072 .f32 :=
  select (cmpf .ogt cnt (edgeC 0x00000000#32))
    (mulf (Host.exp lg) (subf (edgeC 0x3F800000#32) (mulf (edgeC 0x40000000#32) (rem2 neg)))) (edgeC 0x00000000#32)

/-- The check nodes' products of the messages `t` over the edges, along the adjacency `M`. -/
def checkE (t : FVec F S256x3072 .f32) (M : FVec F S3072x3072 .f32) : FVec F S256x3072 .f32 :=
  combine
    (Host.dotGeneral dot_S256x3072_S3072x3072_S256x3072_1_0_0_1_n_n none
      (Host.log (Host.absf (select (cmpf .une t (edgeC 0x00000000#32)) t (edgeC 0x3F800000#32))))
      (transpose S3072x3072 [1, 0] M transposes_S3072x3072_S3072x3072_1_0))
    (Host.dotGeneral dot_S256x3072_S3072x3072_S256x3072_1_0_0_1_n_n none
      (uitofp .f32 (cmpf .olt t (edgeC 0x00000000#32)))
      (transpose S3072x3072 [1, 0] M transposes_S3072x3072_S3072x3072_1_0))
    (Host.dotGeneral dot_S256x3072_S3072x3072_S256x3072_1_0_0_1_n_n none
      (uitofp .f32 (cmpf .une t (edgeC 0x00000000#32)))
      (transpose S3072x3072 [1, 0] M transposes_S3072x3072_S3072x3072_1_0))

/-- The same of messages over the variables, along the first adjacency. -/
def checkV (t : FVec F S256x768 .f32) (M : FVec F S3072x768 .f32) : FVec F S256x3072 .f32 :=
  combine
    (Host.dotGeneral dot_S256x768_S768x3072_S256x3072_1_0_0_1_n_n none
      (Host.log (Host.absf (select (cmpf .une t (varC 0x00000000#32)) t (varC 0x3F800000#32))))
      (transpose S768x3072 [1, 0] M transposes_S3072x768_S768x3072_1_0))
    (Host.dotGeneral dot_S256x768_S768x3072_S256x3072_1_0_0_1_n_n none
      (uitofp .f32 (cmpf .olt t (varC 0x00000000#32)))
      (transpose S768x3072 [1, 0] M transposes_S3072x768_S768x3072_1_0))
    (Host.dotGeneral dot_S256x768_S768x3072_S256x3072_1_0_0_1_n_n none
      (uitofp .f32 (cmpf .une t (varC 0x00000000#32)))
      (transpose S768x3072 [1, 0] M transposes_S3072x768_S768x3072_1_0))

/-- Twice the inverse hyperbolic tangent of a clipped product. -/
def llr (h : FVec F S256x3072 .f32) : FVec F S256x3072 .f32 :=
  mulf (edgeC 0x40000000#32) (Host.atanh (minimumf (edgeC 0x3F7FFFEF#32) (maximumf (edgeC 0xBF7FFFEF#32) h)))

/-- The edges' products before the loop, from the channel values `x`. -/
def first (x : FVec F S256x768 .f32) (mf : FVec F S3072x768 .f32) : FVec F S256x3072 .f32 :=
  checkV (Host.tanh (mulf (varC 0x3F000000#32) x)) mf

/-- One trip, with the layer's weights `w` and channel matrix `s`. -/
def trip (w : FVec F S3072x3072 .f32) (s : FVec F S768x768 .f32) (x : FVec F S256x768 .f32)
    (b : FVec F S768x3072 .f32) (M : FVec F S3072x3072 .f32) (h : FVec F S256x3072 .f32) : FVec F S256x3072 .f32 :=
  checkE (Host.tanh (mulf (edgeC 0x3F000000#32)
    (addf (Host.dotGeneral dot_S256x3072_S3072x3072_S256x3072_1_0_0_1_n_n none (llr h)
        (transpose S3072x3072 [1, 0] w transposes_S3072x3072_S3072x3072_1_0))
      (Host.dotGeneral dot_S256x768_S768x3072_S256x3072_1_0_0_1_n_n none
        (Host.dotGeneral dot_S256x768_S768x768_S256x768_1_0_0_1_n_n none x s) b)))) M

/-- The layer a counter picks of the weights, and of the channel matrices. -/
def pickW (W : FVec F S19x3072x3072 .f32) (i : IVec S_ 32) : FVec F S3072x3072 .f32 :=
  shapeCast S3072x3072 (Host.dynamicSlice S1x3072x3072 W
    (fun k => ((![i, constantI S_ 32 0#32, constantI S_ 32 0#32] : Fin 3 → IVec S_ 32) k (Shape.Idx.first h_S_)).toInt)
    sliceFits_S19x3072x3072_S1x3072x3072) shapeCasts_S1x3072x3072_S3072x3072
def pickS (S : FVec F S19x768x768 .f32) (i : IVec S_ 32) : FVec F S768x768 .f32 :=
  shapeCast S768x768 (Host.dynamicSlice S1x768x768 S
    (fun k => ((![i, constantI S_ 32 0#32, constantI S_ 32 0#32] : Fin 3 → IVec S_ 32) k (Shape.Idx.first h_S_)).toInt)
    sliceFits_S19x768x768_S1x768x768) shapeCasts_S1x768x768_S768x768

/-- The result from the last products `h`. -/
def ending (x : FVec F S256x768 .f32) (wo : FVec F S768x3072 .f32) (S : FVec F S20x768x768 .f32)
    (k : FVec F S768x768 .f32) (h : FVec F S256x3072 .f32) : FVec F S256x768 .f32 :=
  Host.divf (varC 0x3F800000#32) (addf (varC 0x3F800000#32) (Host.exp (Host.negf
    (addf (Host.dotGeneral dot_S256x3072_S3072x768_S256x768_1_0_0_1_n_n none (llr h)
        (transpose S3072x768 [1, 0] wo transposes_S768x3072_S3072x768_1_0))
      (Host.dotGeneral dot_S256x768_S768x768_S256x768_1_0_0_1_n_n none
        (Host.dotGeneral dot_S256x768_S768x768_S256x768_1_0_0_1_n_n none x
          (shapeCast S768x768 (extractStridedSlice S1x768x768 ![19, 0, 0] S slices_S20x768x768_S1x768x768_19_0_0)
            shapeCasts_S1x768x768_S768x768)) k)))))

set_option maxRecDepth 65536
set_option maxHeartbeats 400000

variable (V : Valuation τ sig (Elt F))

/-- The stretch before the loop leaves the first products, -/
theorem pre_h : afterL preI V (main_v30_6 : DevRef τ sig) = first (V (main_arg0 : DevRef τ sig)) (V (main_arg6 : DevRef τ sig)) := by
  simp only [afterL_cons, afterL_nil]
  after_reads_simp
  simp -implicitDefEqProofs only [StableHlo.TRef.toBuf, StableHlo.TRef.ofBuf, cast_cast, cast_eq, id_eq]
  rfl

/-- A trip first picks its layers, -/
theorem pick_w : after (pickWOps (.of main_v30_0) (.of main_v30_5) main_while0b_call3) V (main_while0b_v48 : DevRef τ sig)
    = pickW (V (main_v30_0 : DevRef τ sig)) (V (main_v30_5 : DevRef τ sig)) := by
  after_reads_simp
  simp -implicitDefEqProofs only [StableHlo.TRef.toBuf, StableHlo.TRef.ofBuf, cast_cast, cast_eq, id_eq]
  refine congrArg (fun st => shapeCast S3072x3072 (Host.dynamicSlice S1x3072x3072 (V (main_v30_0 : DevRef τ sig)) st
    sliceFits_S19x3072x3072_S1x3072x3072) shapeCasts_S1x3072x3072_S3072x3072) (funext fun k => ?_)
  match k with
  | 0 =>
    show BitVec.toInt ((upto (pickWOps (.of main_v30_0) (.of main_v30_5) main_while0b_call3) V 2 (main_v30_5 : DevRef τ sig) : IVec S_ 32) (Shape.Idx.first h_S_)) = _
    after_reads_simp
    rfl
  | 1 =>
    show BitVec.toInt ((upto (pickWOps (.of main_v30_0) (.of main_v30_5) main_while0b_call3) V 2 (main_while0b_call3_c : DevRef τ sig) : IVec S_ 32) (Shape.Idx.first h_S_)) = _
    after_reads_simp
    rfl
  | 2 =>
    show BitVec.toInt ((upto (pickWOps (.of main_v30_0) (.of main_v30_5) main_while0b_call3) V 2 (main_while0b_call3_c_0 : DevRef τ sig) : IVec S_ 32) (Shape.Idx.first h_S_)) = _
    after_reads_simp
    rfl

theorem pick_s : after (pickSOps (.of main_v30_1) (.of main_v30_5) main_while0b_call4) V (main_while0b_v49 : DevRef τ sig)
    = pickS (V (main_v30_1 : DevRef τ sig)) (V (main_v30_5 : DevRef τ sig)) := by
  after_reads_simp
  simp -implicitDefEqProofs only [StableHlo.TRef.toBuf, StableHlo.TRef.ofBuf, cast_cast, cast_eq, id_eq]
  refine congrArg (fun st => shapeCast S768x768 (Host.dynamicSlice S1x768x768 (V (main_v30_1 : DevRef τ sig)) st
    sliceFits_S19x768x768_S1x768x768) shapeCasts_S1x768x768_S768x768) (funext fun k => ?_)
  match k with
  | 0 =>
    show BitVec.toInt ((upto (pickSOps (.of main_v30_1) (.of main_v30_5) main_while0b_call4) V 2 (main_v30_5 : DevRef τ sig) : IVec S_ 32) (Shape.Idx.first h_S_)) = _
    after_reads_simp
    rfl
  | 1 =>
    show BitVec.toInt ((upto (pickSOps (.of main_v30_1) (.of main_v30_5) main_while0b_call4) V 2 (main_while0b_call4_c : DevRef τ sig) : IVec S_ 32) (Shape.Idx.first h_S_)) = _
    after_reads_simp
    rfl
  | 2 =>
    show BitVec.toInt ((upto (pickSOps (.of main_v30_1) (.of main_v30_5) main_while0b_call4) V 2 (main_while0b_call4_c_0 : DevRef τ sig) : IVec S_ 32) (Shape.Idx.first h_S_)) = _
    after_reads_simp
    rfl

/-- then runs `trip` on them, -/
theorem tail_h : afterL tailI V (main_v30_6 : DevRef τ sig)
    = trip (V (main_while0b_v48 : DevRef τ sig)) (V (main_while0b_v49 : DevRef τ sig))
        (V (main_v30_2 : DevRef τ sig)) (V (main_v30_3 : DevRef τ sig)) (V (main_v30_4 : DevRef τ sig)) (V (main_v30_6 : DevRef τ sig)) := by
  simp only [afterL_cons, afterL_nil]
  after_reads_simp
  simp -implicitDefEqProofs only [StableHlo.TRef.toBuf, StableHlo.TRef.ofBuf, cast_cast, cast_eq, id_eq]
  rfl

/-- and the stretch after it leaves the result. -/
theorem post_h : afterL postI V (main_v47 : DevRef τ sig)
    = ending (V (main_arg0 : DevRef τ sig)) (V (main_arg2 : DevRef τ sig)) (V (main_arg3 : DevRef τ sig))
        (V (main_arg5 : DevRef τ sig)) (V (main_v30_6 : DevRef τ sig)) := by
  simp only [afterL_cons, afterL_nil]
  after_reads_simp
  simp -implicitDefEqProofs only [StableHlo.TRef.toBuf, StableHlo.TRef.ofBuf, cast_cast, cast_eq, id_eq]
  rfl

end Cert.Proof.Ref

end
-- ==== Proof.Scal.lean ====
/-
  The numbers behind the two decoders: a check node's two counts packed in one word, the remainder by two, and the
  inverse hyperbolic tangent as a logarithm of a quotient.
-/
module

public import proofs.«01_k».proof.Proof.Base
public import Idealize.ShloMosaic.Lib.Pointwise
public import Mathlib.Analysis.SpecialFunctions.Artanh

@[expose] public section

noncomputable section

namespace Cert.Proof

open Idealize.ShloMosaic

/-! ## The constants -/

theorem c_two : Ideal.ofBits .f32 0x40000000#32 = ((2 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_eight : Ideal.ofBits .f32 0x41000000#32 = ((8 : ℝ) : EReal) := by
  simp [Ideal.ofBits, Ideal.ieee, -EReal.coe_mul]; norm_num
theorem c_seven : Ideal.ofBits .f32 0x40E00000#32 = ((7 : ℝ) : EReal) := by
  simp [Ideal.ofBits, Ideal.ieee, -EReal.coe_mul]; norm_num
theorem c_hi : Ideal.ofBits .f32 0x3F7FFFEF#32 = ((16777199 / 16777216 : ℝ) : EReal) := by
  simp [Ideal.ofBits, Ideal.ieee, -EReal.coe_mul]; norm_num
theorem c_lo : Ideal.ofBits .f32 0xBF7FFFEF#32 = ((-(16777199 / 16777216) : ℝ) : EReal) := by
  simp [Ideal.ofBits, Ideal.ieee, -EReal.coe_mul, -EReal.coe_neg]; norm_num

/-! ## The inverse hyperbolic tangent -/

/-- A product brought within the clip. -/
def clip (h : EReal) : EReal := min (Ideal.ofBits .f32 0x3F7FFFEF#32) (max (Ideal.ofBits .f32 0xBF7FFFEF#32) h)

/-- What is clipped is a real strictly between -1 and 1. -/
theorem clip_real (h : EReal) : ∃ r : ℝ, clip h = (r : EReal) ∧ -1 < r ∧ r < 1 := by
  unfold clip
  rw [c_hi, c_lo]
  induction h with
  | bot => exact ⟨-(16777199 / 16777216), by rw [max_eq_left bot_le, min_eq_right (EReal.coe_le_coe_iff.2 (by norm_num))], by norm_num, by norm_num⟩
  | top => exact ⟨16777199 / 16777216, by rw [max_eq_right le_top, min_eq_left le_top], by norm_num, by norm_num⟩
  | coe r =>
    refine ⟨min (16777199 / 16777216) (max (-(16777199 / 16777216)) r), ?_, ?_, ?_⟩
    · rw [EReal.coe_strictMono.monotone.map_min, EReal.coe_strictMono.monotone.map_max]
    · exact lt_min (by norm_num) (lt_max_of_lt_left (by norm_num))
    · exact min_lt_of_left_lt (by norm_num)

/-- The logarithm of the quotient is twice the inverse hyperbolic tangent. -/
theorem log_div_clip (h : EReal) :
    Ideal.log (Ideal.div (1 + clip h) (1 - clip h)) = Ideal.ofBits .f32 0x40000000#32 * Ideal.atanh (clip h) := by
  obtain ⟨r, e, hl, hr⟩ := clip_real h
  have hp : 0 < 1 - r := by linarith
  have hq : 0 < 1 + r := by linarith
  rw [e, c_two, show (1 : EReal) = ((1 : ℝ) : EReal) from rfl, ← EReal.coe_add, ← EReal.coe_sub, Ideal.div_coe hp.ne', ← EReal.coe_mul]
  have hx : 0 < (1 + r) * (1 / (1 - r)) := by positivity
  simp only [Ideal.log_coe, Ideal.atanh_coe, if_neg (not_le.2 hx), if_neg (ne_of_lt hr), if_neg (ne_of_gt hl), if_pos (And.intro hl hr)]
  rw [← EReal.coe_mul]
  congr 1
  rw [Real.artanh, Real.log_sqrt (by positivity), mul_one_div]
  ring

/-! ## The counts -/

/-- The packed counts' two fields: what the kernel makes of the logarithms' sum `p` and the packed sum `w`. -/
def unpack (p w : EReal) : EReal :=
  Scalar.select (IntOp.cmpi .sgt (IntOp.andi (FloatOps.fptosi (F := Ideal) (φ := .f32) 32 (w + Ideal.ofBits .f32 0x3F000000#32)) 7#32) 0#32)
    (Ideal.exp p * (1 - Ideal.ofBits .f32 0x40000000#32 *
      (FloatOps.sitofp (F := Ideal) .f32 (IntOp.andi (IntOp.shrsi ArithUnit.vector (FloatOps.fptosi (F := Ideal) (φ := .f32) 32
        (w + Ideal.ofBits .f32 0x3F000000#32)) 3#32) 1#32) : EReal))) 0

/-- The floor remainder by two. -/
def modTwo (x : EReal) : EReal :=
  Scalar.select
    (IntOp.andi
      (IntOp.cmpi .ne (BitVec.ofBool (decide (Ideal.remf x (Ideal.ofBits .f32 0x40000000#32) < 0)))
        (BitVec.ofBool (decide (Ideal.ofBits .f32 0x40000000#32 < 0))))
      (BitVec.ofBool (decide (Ideal.remf x (Ideal.ofBits .f32 0x40000000#32) ≠ 0))))
    (Ideal.remf x (Ideal.ofBits .f32 0x40000000#32) + Ideal.ofBits .f32 0x40000000#32)
    (Ideal.remf x (Ideal.ofBits .f32 0x40000000#32))

/-- The same of the three sums apart, as the reference has it. -/
def apart (p neg cnt : EReal) : EReal :=
  if 0 < cnt then Ideal.exp p * (1 - Ideal.ofBits .f32 0x40000000#32 * modTwo neg) else 0

theorem remf_nat (b : ℕ) : Ideal.remf ((b : ℝ) : EReal) (Ideal.ofBits .f32 0x40000000#32) = ((b % 2 : ℕ) : ℝ) := by
  rw [c_two]
  show (if (2 : ℝ) = 0 then ⊥ else (((b : ℝ) - 2 * (Ideal.truncInt ((b : ℝ) / 2) : ℝ) : ℝ) : EReal)) = _
  rw [if_neg (by norm_num)]
  congr 1
  have h1 : Ideal.truncInt ((b : ℝ) / 2) = ((b / 2 : ℕ) : ℤ) := by
    rw [Ideal.truncInt, if_pos (by positivity)]
    rw [Int.floor_eq_iff]
    have hb : (b : ℝ) = 2 * ((b / 2 : ℕ) : ℝ) + ((b % 2 : ℕ) : ℝ) := by exact_mod_cast (Nat.div_add_mod b 2).symm
    have hm : ((b % 2 : ℕ) : ℝ) < 2 := by exact_mod_cast Nat.mod_lt b (by decide)
    have hm0 : (0 : ℝ) ≤ ((b % 2 : ℕ) : ℝ) := by positivity
    rw [Int.cast_natCast]
    constructor <;> linarith
  rw [h1, Int.cast_natCast]
  have hb : (b : ℝ) = 2 * ((b / 2 : ℕ) : ℝ) + ((b % 2 : ℕ) : ℝ) := by exact_mod_cast (Nat.div_add_mod b 2).symm
  linarith

theorem modTwo_nat (b : ℕ) : modTwo ((b : ℝ) : EReal) = (((b % 2 : ℕ) : ℝ) : EReal) := by
  unfold modTwo
  rw [remf_nat, c_two]
  have h0 : ¬ ((((b % 2 : ℕ) : ℝ) : EReal) < 0) := not_lt.2 (EReal.coe_nonneg.2 (Nat.cast_nonneg _))
  have h2 : ¬ (((2 : ℝ) : EReal) < 0) := not_lt.2 (EReal.coe_nonneg.2 (by norm_num))
  simp only [h0, h2, decide_false]
  rw [show IntOp.cmpi .ne (BitVec.ofBool false) (BitVec.ofBool false) = 0#1 from by decide]
  generalize BitVec.ofBool _ = z
  rw [show IntOp.andi 0#1 z = 0#1 from by simp [IntOp.andi]]
  rfl

/-- The packed word of two counts of at most seven, -/
theorem word_nat (a b : ℕ) (ha : a ≤ 7) (hb : b ≤ 7) :
    FloatOps.fptosi (F := Ideal) (φ := .f32) 32 ((((a + 8 * b : ℕ) : ℝ) : EReal) + Ideal.ofBits .f32 0x3F000000#32) = BitVec.ofNat 32 (a + 8 * b) := by
  rw [c_half, ← EReal.coe_add]
  show BitVec.ofInt 32 (max (-(2 ^ (32 - 1) : ℕ)) (min ((2 ^ (32 - 1) : ℕ) - 1) (if (0 : ℝ) ≤ _ then ⌊_⌋ else ⌈_⌉))) = _
  rw [if_pos (by positivity)]
  have hf : ⌊((a + 8 * b : ℕ) : ℝ) + 1 / 2⌋ = ((a + 8 * b : ℕ) : ℤ) := by
    rw [Int.floor_eq_iff]; push_cast; constructor <;> linarith
  rw [hf, min_eq_right (by push_cast; omega), max_eq_right (by push_cast; omega)]
  rfl

/-- its low field, and its high field's parity. -/
theorem fields (a b : ℕ) (ha : a ≤ 7) (hb : b ≤ 7) :
    IntOp.cmpi .sgt (IntOp.andi (BitVec.ofNat 32 (a + 8 * b)) 7#32) 0#32 = BitVec.ofBool (decide (0 < a))
      ∧ IntOp.andi (IntOp.shrsi ArithUnit.vector (BitVec.ofNat 32 (a + 8 * b)) 3#32) 1#32 = BitVec.ofNat 32 (b % 2) := by
  have key : ∀ a b : Fin 8, IntOp.cmpi .sgt (IntOp.andi (BitVec.ofNat 32 (a.val + 8 * b.val)) 7#32) 0#32 = BitVec.ofBool (decide (0 < a.val))
      ∧ IntOp.andi (IntOp.shrsi ArithUnit.vector (BitVec.ofNat 32 (a.val + 8 * b.val)) 3#32) 1#32 = BitVec.ofNat 32 (b.val % 2) := by decide
  exact key ⟨a, by omega⟩ ⟨b, by omega⟩

theorem sitofp_parity (b : ℕ) : (FloatOps.sitofp (F := Ideal) .f32 (BitVec.ofNat 32 (b % 2)) : EReal) = (((b % 2 : ℕ) : ℝ) : EReal) := by
  rcases Nat.mod_two_eq_zero_or_one b with h | h <;> rw [h]
  · show (((0#32 : BitVec 32).toInt : ℝ) : EReal) = _
    simp
  · show (((1#32 : BitVec 32).toInt : ℝ) : EReal) = _
    simp

theorem unpack_nat (p : EReal) (a b : ℕ) (ha : a ≤ 7) (hb : b ≤ 7) :
    unpack p (((a + 8 * b : ℕ) : ℝ) : EReal) = apart p ((b : ℝ) : EReal) ((a : ℝ) : EReal) := by
  unfold unpack apart
  rw [word_nat a b ha hb, (fields a b ha hb).1, (fields a b ha hb).2, sitofp_parity, modTwo_nat]
  rcases Nat.eq_zero_or_pos a with h | h
  · subst h
    rw [if_neg (by simp)]
    rfl
  · rw [if_pos (by exact_mod_cast h)]
    simp only [h, decide_true]
    rfl

/-- The indicator of a bit, through a word and directly. -/
theorem ind_word (q : Prop) [Decidable q] :
    (FloatOps.sitofp (F := Ideal) .f32 (BitVec.setWidth 32 (BitVec.ofBool (decide q))) : EReal) = (((if q then 1 else 0 : ℕ) : ℝ) : EReal) := by
  by_cases h : q <;> simp only [h, decide_true, decide_false, if_true, if_false]
  · show (((BitVec.setWidth 32 (BitVec.ofBool true)).toInt : ℝ) : EReal) = _
    rw [show (BitVec.setWidth 32 (BitVec.ofBool true)).toInt = 1 from by decide]; simp
  · show (((BitVec.setWidth 32 (BitVec.ofBool false)).toInt : ℝ) : EReal) = _
    rw [show (BitVec.setWidth 32 (BitVec.ofBool false)).toInt = 0 from by decide]; simp
theorem ind_bit (q : Prop) [Decidable q] :
    (FloatOps.uitofp (F := Ideal) .f32 (BitVec.ofBool (decide q)) : EReal) = (((if q then 1 else 0 : ℕ) : ℝ) : EReal) := by
  by_cases h : q <;> simp only [h, decide_true, decide_false, if_true, if_false]
  · show (((BitVec.ofBool true).toNat : ℝ) : EReal) = _
    simp
  · show (((BitVec.ofBool false).toNat : ℝ) : EReal) = _
    simp

/-- A row of an adjacency: zeros and ones, at most seven ones. -/
def Row {n : ℕ} (M : Fin n → EReal) : Prop := (∀ k, M k = 0 ∨ M k = 1) ∧ ∑ k, M k ≤ Ideal.ofBits .f32 0x40E00000#32

/-- A finite sum of naturals among the extended reals. -/
theorem coe_sum {n : ℕ} (f : Fin n → ℕ) : ∑ k, (((f k : ℕ) : ℝ) : EReal) = (((∑ k, f k : ℕ) : ℝ) : EReal) := by
  push_cast
  exact (map_sum (⟨⟨((↑) : ℝ → EReal), rfl⟩, EReal.coe_add⟩ : ℝ →+ EReal) (fun k => (f k : ℝ)) Finset.univ).symm

/-- **The packed sum decodes to the two counts**: along a row of an adjacency both readings give the same product. -/
theorem unpack_row {n : ℕ} {M : Fin n → EReal} (hM : Row M) (p : EReal) (t : Fin n → EReal) :
    unpack p (∑ k, ((FloatOps.sitofp (F := Ideal) .f32 (BitVec.setWidth 32 (BitVec.ofBool (decide (t k ≠ 0)))) : EReal)
        + Ideal.ofBits .f32 0x41000000#32 * (FloatOps.sitofp (F := Ideal) .f32 (BitVec.setWidth 32 (BitVec.ofBool (decide (t k < 0)))) : EReal)) * M k)
      = apart p (∑ k, (FloatOps.uitofp (F := Ideal) .f32 (BitVec.ofBool (decide (t k < 0))) : EReal) * M k)
          (∑ k, (FloatOps.uitofp (F := Ideal) .f32 (BitVec.ofBool (decide (t k ≠ 0))) : EReal) * M k) := by
  obtain ⟨h01, h7⟩ := hM
  have hμ : ∀ k, ∃ μ : ℕ, M k = ((μ : ℝ) : EReal) := fun k => (h01 k).elim (fun h => ⟨0, by simp [h]⟩) (fun h => ⟨1, by simp [h]⟩)
  choose μ hμ using hμ
  have e1 : ∀ q : Fin n → Prop, ∀ [DecidablePred q],
      ∑ k, (FloatOps.uitofp (F := Ideal) .f32 (BitVec.ofBool (decide (q k))) : EReal) * M k
        = (((∑ k, (if q k then 1 else 0) * μ k : ℕ) : ℝ) : EReal) := by
    intro q _
    rw [← coe_sum]
    refine Finset.sum_congr rfl fun k _ => ?_
    rw [ind_bit, hμ k, ← EReal.coe_mul]
    push_cast; rfl
  have e2 : ∑ k, ((FloatOps.sitofp (F := Ideal) .f32 (BitVec.setWidth 32 (BitVec.ofBool (decide (t k ≠ 0)))) : EReal)
        + Ideal.ofBits .f32 0x41000000#32 * (FloatOps.sitofp (F := Ideal) .f32 (BitVec.setWidth 32 (BitVec.ofBool (decide (t k < 0)))) : EReal)) * M k
      = (((∑ k, (if t k ≠ 0 then 1 else 0) * μ k + 8 * ∑ k, (if t k < 0 then 1 else 0) * μ k : ℕ) : ℝ) : EReal) := by
    rw [Finset.mul_sum, ← Finset.sum_add_distrib, ← coe_sum]
    refine Finset.sum_congr rfl fun k _ => ?_
    rw [ind_word, ind_word, hμ k, c_eight, ← EReal.coe_mul, ← EReal.coe_add, ← EReal.coe_mul]
    congr 1
    push_cast; ring
  have hs : ∑ k, μ k ≤ 7 := by
    rw [Finset.sum_congr rfl (fun k _ => hμ k), coe_sum, c_seven] at h7
    exact_mod_cast EReal.coe_le_coe_iff.1 h7
  have hle : ∀ q : Fin n → Prop, ∀ [DecidablePred q], ∑ k, (if q k then 1 else 0) * μ k ≤ 7 := fun q _ =>
    (Finset.sum_le_sum fun k _ => by split <;> omega).trans hs
  rw [e2, e1, e1]
  exact unpack_nat p _ _ (hle _) (hle _)

end Cert.Proof

end
-- ==== Proof.Value.lean ====
/-
  The kernel's arrays against the reference's, over the extended reals: the prologue's messages, a layer, the result.
-/
module

public import proofs.«01_k».proof.Proof.RefRead
public import proofs.«01_k».proof.Proof.Data
public import proofs.«01_k».proof.Proof.Scal

@[expose] public section

noncomputable section

namespace Cert.Proof

open Idealize.ShloMosaic
open Cert.KernelIdeal Cert.KernelIdeal.Gen
open Cert.ReferenceIdeal (S19x768x768)

attribute [local instance] Ref.facts Cert.KernelIdeal.Gen.facts

set_option maxRecDepth 16384

/-! ## The reference at an index -/

/-- A clipped and doubled inverse hyperbolic tangent, at an edge. -/
theorem llr_at (h : FVec Ideal S256x3072 .f32) (b : Fin 256) (e : Fin 3072) :
    Ref.llr h (ix2 b e) = Ideal.ofBits .f32 0x40000000#32 * Ideal.atanh (clip (h (ix2 b e))) := by
  pointwise [Ref.llr]
  rfl

/-- The logarithm a message contributes to a check node. -/
def logAbs (t : EReal) : EReal := Ideal.log (FloatOps.absf (F := Ideal) (φ := .f32) (if t ≠ 0 then t else 1))
/-- A bit as a number. -/
abbrev bit (q : Prop) [Decidable q] : EReal := FloatOps.uitofp (F := Ideal) .f32 (BitVec.ofBool (decide q))
/-- A message's two indicators in one number. -/
def packB (t : EReal) : EReal :=
  (FloatOps.sitofp (F := Ideal) .f32 (BitVec.setWidth 32 (BitVec.ofBool (decide (t ≠ 0)))) : EReal)
    + Ideal.ofBits .f32 0x41000000#32 * (FloatOps.sitofp (F := Ideal) .f32 (BitVec.setWidth 32 (BitVec.ofBool (decide (t < 0)))) : EReal)

/-- A check node's product over the edges, at an edge, -/
theorem checkE_at (t : FVec Ideal S256x3072 .f32) (M : FVec Ideal S3072x3072 .f32) (b : Fin 256) (e : Fin 3072) :
    Ref.checkE t M (ix2 b e) = apart (∑ k : Fin 3072, logAbs (t (ix2 b k)) * M (ix2 e k))
      (∑ k : Fin 3072, bit (t (ix2 b k) < 0) * M (ix2 e k)) (∑ k : Fin 3072, bit (t (ix2 b k) ≠ 0) * M (ix2 e k)) := by
  pointwise [Ref.checkE, Ref.combine, Ref.rem2]
  rfl
/-- and over the variables. -/
theorem checkV_at (t : FVec Ideal S256x768 .f32) (M : FVec Ideal S3072x768 .f32) (b : Fin 256) (e : Fin 3072) :
    Ref.checkV t M (ix2 b e) = apart (∑ k : Fin 768, logAbs (t (ix2 b k)) * M (ix2 e k))
      (∑ k : Fin 768, bit (t (ix2 b k) < 0) * M (ix2 e k)) (∑ k : Fin 768, bit (t (ix2 b k) ≠ 0) * M (ix2 e k)) := by
  pointwise [Ref.checkV, Ref.combine, Ref.rem2]
  rfl

/-- The packed sum's reading is the three sums' reading. -/
theorem unpack_check {n : ℕ} {M : Fin n → EReal} (hM : Row M) (p : EReal) (t : Fin n → EReal) :
    unpack p (∑ k, packB (t k) * M k) = apart p (∑ k, bit (t k < 0) * M k) (∑ k, bit (t k ≠ 0) * M k) :=
  unpack_row hM p t

/-! ## The prologue -/

/-- The prologue's messages are the reference's first ones. -/
theorem proT_eq (x : FVec Ideal S256x768 .f32) (mf : FVec Ideal S3072x768 .f32) (hM : ∀ e : Fin 3072, Row fun k : Fin 768 => mf (ix2 e k)) :
    proT x mf = Ref.llr (Ref.first x mf) := by
  funext j
  obtain ⟨b, e, rfl⟩ : ∃ (b : Fin 256) (e : Fin 3072), j = ix2 b e := ⟨j 0, j 1, eq_ix2 j⟩
  rw [llr_at, Ref.first, checkV_at, ← unpack_check (hM e), ← log_div_clip]
  pointwise [proT, k0_pay1, k0_pay7, k0_pay6, k0_pay5, k0_pay4, k0_pay8, k0_pay9]
  rfl

/-! ## A layer -/

variable (I : Ins Ideal)

/-- A variable node's message in layer `l`. -/
def vn (T : FVec Ideal S256x3072 .f32) (l : ℕ) (b : Fin 256) (x : Fin 3072) : EReal :=
  Ideal.tanh (Ideal.ofBits .f32 0x3F000000#32 *
    (∑ y : Fin 3072, T (ix2 b y) * I.w (ix3 (⟨l % 19, Nat.mod_lt _ (by decide)⟩ : Fin 19) x y) + I.bias (ix2 b x)))

/-- The mask's tile, at an index. -/
theorem mask_at (e k : Fin 3072) :
    rowTile (Mb I) (e.val / 512) (ix2 (⟨e.val % 512, Nat.mod_lt _ (by decide)⟩ : Fin 512) k) = I.M (ix2 e k) := by
  unfold rowTile Mb
  pointwise [k1_pay1]
  unfold chunk
  refine congrArg I.M (funext fun a => Fin.ext ?_)
  match a with
  | ⟨0, _⟩ =>
    show 256 * ((512 * (e.val / 512 % 6) + e.val % 512) / 256 % 12) + (512 * (e.val / 512 % 6) + e.val % 512) % 256 = e.val
    have := e.isLt
    omega
  | ⟨1, _⟩ => rfl

/-- A weight block's messages, at an index; -/
theorem pay6_at (T : FVec Ideal S256x3072 .f32) (w : FVec Ideal S1x512x3072 .f32) (bt : FVec Ideal S256x512 .f32) (b : Fin 256) (x : Fin 512) :
    k1_pay6 (F := Ideal) T w bt (ix2 b x) = Ideal.tanh (Ideal.ofBits .f32 0x3F000000#32 *
      (∑ y : Fin 3072, T (ix2 b y) * w (ix3 (0 : Fin 1) x y) + bt (ix2 b x))) := by
  pointwise [k1_pay6]
/-- their logarithms, -/
theorem tile_log_at (T : FVec Ideal S256x3072 .f32) (w : FVec Ideal S1x512x3072 .f32) (bt : FVec Ideal S256x512 .f32) (b : Fin 256) (x : Fin 512) :
    k1_pay2 (F := Ideal) (k1_pay8 T w bt) (ix2 b x) = logAbs (k1_pay6 (F := Ideal) T w bt (ix2 b x)) := by
  pointwise [k1_pay2, k1_pay8, k1_pay7]
  rfl
/-- and their packed indicators. -/
theorem tile_cnt_at (T : FVec Ideal S256x3072 .f32) (w : FVec Ideal S1x512x3072 .f32) (bt : FVec Ideal S256x512 .f32) (b : Fin 256) (x : Fin 512) :
    k1_pay3 (F := Ideal) (k1_pay9 T w bt) (k1_pay10 T w bt) (ix2 b x) = packB (k1_pay6 (F := Ideal) T w bt (ix2 b x)) := by
  pointwise [k1_pay3, k1_pay9, k1_pay10, k1_pay7]
  rfl

/-- The block a column of layer `l` falls in has that column's message. -/
theorem block_at (T : FVec Ideal S256x3072 .f32) (l : ℕ) (b : Fin 256) (x : Fin 3072) :
    k1_pay6 (F := Ideal) T (rows3 le_rfl (blkV I.w (6 * l + x.val / 512))) (colTile I.bias (6 * l + x.val / 512))
      (ix2 b (⟨x.val % 512, Nat.mod_lt _ (by decide)⟩ : Fin 512)) = vn I T l b x := by
  have hx := x.isLt
  rw [pay6_at, vn]
  have hw : ∀ y : Fin 3072, rows3 le_rfl (blkV I.w (6 * l + x.val / 512)) (ix3 (0 : Fin 1) (⟨x.val % 512, Nat.mod_lt _ (by decide)⟩ : Fin 512) y)
      = I.w (ix3 (⟨l % 19, Nat.mod_lt _ (by decide)⟩ : Fin 19) x y) := by
    intro y
    unfold rows3 blkV
    refine congrArg I.w (funext fun a => Fin.ext ?_)
    match a with
    | ⟨0, _⟩ => show (6 * l + x.val / 512) / 6 % 19 = l % 19; omega
    | ⟨1, _⟩ => show 512 * ((6 * l + x.val / 512) % 6) + x.val % 512 = x.val; omega
    | ⟨2, _⟩ => rfl
  have hb : colTile I.bias (6 * l + x.val / 512) (ix2 b (⟨x.val % 512, Nat.mod_lt _ (by decide)⟩ : Fin 512)) = I.bias (ix2 b x) := by
    unfold colTile
    refine congrArg I.bias (funext fun a => Fin.ext ?_)
    match a with
    | ⟨0, _⟩ => rfl
    | ⟨1, _⟩ => show 512 * ((6 * l + x.val / 512) % 6) + x.val % 512 = x.val; omega
  rw [hb]
  exact congrArg (fun z => Ideal.tanh (Ideal.ofBits .f32 0x3F000000#32 * (z + I.bias (ix2 b x))))
    (Finset.sum_congr rfl fun y _ => congrArg (T (ix2 b y) * ·) (hw y))

/-- The packed array's upper half holds the logarithms, -/
theorem packed_log (T : FVec Ideal S256x3072 .f32) (l : ℕ) (b : Fin 256) (x : Fin 3072) (h : b.val < 512) :
    packed I T l (ix2 (⟨b.val, h⟩ : Fin 512) x) = logAbs (vn I T l b x) := by
  unfold packed
  rw [dif_pos (show ((ix2 (⟨b.val, h⟩ : Fin 512) x) 0).val < 256 from b.isLt), ← block_at, ← tile_log_at]
  rfl
/-- its lower half the packed indicators. -/
theorem packed_cnt (T : FVec Ideal S256x3072 .f32) (l : ℕ) (b : Fin 256) (x : Fin 3072) (h : 256 + b.val < 512) :
    packed I T l (ix2 (⟨256 + b.val, h⟩ : Fin 512) x) = packB (vn I T l b x) := by
  unfold packed
  rw [dif_neg (show ¬ ((ix2 (⟨256 + b.val, h⟩ : Fin 512) x) 0).val < 256 from by show ¬ (256 + b.val < 256); omega), ← block_at, ← tile_cnt_at]
  unfold cntTile
  refine congrArg (k1_pay3 (F := Ideal) _ _) (funext fun a => Fin.ext ?_)
  match a with
  | ⟨0, _⟩ => show 256 + b.val - 256 = b.val; omega
  | ⟨1, _⟩ => rfl

/-- A check node's messages out of the packed array, at an index. -/
theorem pay11_at (P : FVec Ideal S512x3072 .bf16) (M : FVec Ideal S512x3072 .bf16) (b : Fin 256) (e : Fin 512) :
    k1_pay4 (F := Ideal) (k1_pay11 P M) (ix2 b e) = Ideal.log (Ideal.div
      (1 + clip (unpack (∑ k : Fin 3072, P (ix2 (⟨b.val, by omega⟩ : Fin 512) k) * M (ix2 e k))
        (∑ k : Fin 3072, P (ix2 (⟨256 + b.val, by omega⟩ : Fin 512) k) * M (ix2 e k))))
      (1 - clip (unpack (∑ k : Fin 3072, P (ix2 (⟨b.val, by omega⟩ : Fin 512) k) * M (ix2 e k))
        (∑ k : Fin 3072, P (ix2 (⟨256 + b.val, by omega⟩ : Fin 512) k) * M (ix2 e k))))) := by
  pointwise [k1_pay4, k1_pay11]
  rfl

/-- **A layer's output is the reference's**, on the input `T`, when its variable nodes' messages are `t`. -/
theorem layer_eq (hM : ∀ e : Fin 3072, Row fun k : Fin 3072 => I.M (ix2 e k)) (T : FVec Ideal S256x3072 .f32) (l : ℕ)
    (t : FVec Ideal S256x3072 .f32) (ht : ∀ (b : Fin 256) (x : Fin 3072), t (ix2 b x) = vn I T l b x) :
    layer I T l = Ref.llr (Ref.checkE t I.M) := by
  funext j
  obtain ⟨b, e, rfl⟩ : ∃ (b : Fin 256) (e : Fin 3072), j = ix2 b e := ⟨j 0, j 1, eq_ix2 j⟩
  rw [llr_at, checkE_at, ← unpack_check (hM e), ← log_div_clip]
  refine (pay11_at (packed I T l) (rowTile (Mb I) (e.val / 512)) b (⟨e.val % 512, Nat.mod_lt _ (by decide)⟩ : Fin 512)).trans ?_
  have h1 : ∑ k : Fin 3072, (packed I T l (ix2 (⟨b.val, by omega⟩ : Fin 512) k) : EReal)
        * rowTile (Mb I) (e.val / 512) (ix2 (⟨e.val % 512, Nat.mod_lt _ (by decide)⟩ : Fin 512) k)
      = ∑ k : Fin 3072, logAbs (t (ix2 b k)) * I.M (ix2 e k) :=
    Finset.sum_congr rfl fun k _ => by rw [packed_log, mask_at, ht]
  have h2 : ∑ k : Fin 3072, (packed I T l (ix2 (⟨256 + b.val, by omega⟩ : Fin 512) k) : EReal)
        * rowTile (Mb I) (e.val / 512) (ix2 (⟨e.val % 512, Nat.mod_lt _ (by decide)⟩ : Fin 512) k)
      = ∑ k : Fin 3072, packB (t (ix2 b k)) * I.M (ix2 e k) :=
    Finset.sum_congr rfl fun k _ => by rw [packed_cnt, mask_at, ht]
  rw [h1, h2]

/-- The kernel's bias, at an index, -/
theorem proB_at (x : FVec Ideal S256x768 .f32) (s : FVec Ideal S768x768 .f32) (bm : FVec Ideal S768x3072 .f32) (b : Fin 256) (e : Fin 3072) :
    proB (F := Ideal) x s bm (ix2 b e) = ∑ z : Fin 768, (∑ u : Fin 768, x (ix2 b u) * s (ix2 u z)) * bm (ix2 z e) := by
  pointwise [proB, k0_pay2]
/-- and its channel term. -/
theorem proL_at (x : FVec Ideal S256x768 .f32) (s k : FVec Ideal S768x768 .f32) (b : Fin 256) (e : Fin 768) :
    proL (F := Ideal) x s k (ix2 b e) = ∑ z : Fin 768, (∑ u : Fin 768, x (ix2 b u) * s (ix2 u z)) * k (ix2 z e) := by
  pointwise [proL, k0_pay3]

/-- **A layer is a trip of the reference's loop**, on the same weights and the same bias. -/
theorem layer_trip (hM : ∀ e : Fin 3072, Row fun k : Fin 3072 => I.M (ix2 e k)) (l : ℕ) (w : FVec Ideal S3072x3072 .f32)
    (hw : ∀ x y : Fin 3072, w (ix2 x y) = I.w (ix3 (⟨l % 19, Nat.mod_lt _ (by decide)⟩ : Fin 19) x y))
    (s : FVec Ideal S768x768 .f32) (x : FVec Ideal S256x768 .f32) (bm : FVec Ideal S768x3072 .f32) (hb : I.bias = proB x s bm)
    (h : FVec Ideal S256x3072 .f32) : layer I (Ref.llr h) l = Ref.llr (Ref.trip w s x bm I.M h) := by
  refine layer_eq I hM _ l _ fun b e => ?_
  have e1 : vn I (Ref.llr h) l b e = Ideal.tanh (Ideal.ofBits .f32 0x3F000000#32 *
      (∑ y : Fin 3072, Ref.llr h (ix2 b y) * w (ix2 e y) + ∑ z : Fin 768, (∑ u : Fin 768, x (ix2 b u) * s (ix2 u z)) * bm (ix2 z e))) := by
    rw [vn, hb, proB_at]
    simp only [hw]
  rw [e1]
  pointwise

/-! ## The result -/

/-- The logistic function as the reference writes it. -/
abbrev sig_ (z : EReal) : EReal := Ideal.div 1 (1 + Ideal.exp (-z))

/-- The first output columns, at an index, -/
theorem lo_at (T : FVec Ideal S256x3072 .f32) (w : FVec Ideal S1x512x3072 .f32) (lm : FVec Ideal S256x512 .f32) (b : Fin 256) (e : Fin 512) :
    k1_pay12 (F := Ideal) T w lm (ix2 b e) = sig_ (∑ y : Fin 3072, T (ix2 b y) * w (ix3 (0 : Fin 1) e y) + lm (ix2 b e)) := by
  pointwise [k1_pay12]
  rfl
/-- and the others. -/
theorem hi_at (T : FVec Ideal S256x3072 .f32) (w : FVec Ideal S1x256x3072 .f32) (lm : FVec Ideal S256x256 .f32) (b : Fin 256) (e : Fin 256) :
    k1_pay5 (F := Ideal) (k1_pay13 T w lm) (ix2 b e) = sig_ (∑ y : Fin 3072, T (ix2 b y) * w (ix3 (0 : Fin 1) e y) + lm (ix2 b e)) := by
  pointwise [k1_pay5, k1_pay13]
  rfl

/-- Both stretches of columns, at an index. -/
theorem result_at (T : FVec Ideal S256x3072 .f32) (b : Fin 256) (e : Fin 768) :
    result I T (ix2 b e) = sig_ (∑ y : Fin 3072, T (ix2 b y) * I.wo (ix2 e y) + I.lm (ix2 b e)) := by
  unfold result
  by_cases h : e.val < 512
  · rw [dif_pos (show ((ix2 b e) 1).val < 512 from h)]
    refine (lo_at T (lead (woLo I)) (lmLo I) b ⟨e.val, h⟩).trans ?_
    rfl
  · rw [dif_neg (show ¬ ((ix2 b e) 1).val < 512 from h)]
    refine (hi_at T (lead (woHi I)) (lmHi I) b ⟨e.val - 512, by omega⟩).trans ?_
    have he : 512 + (e.val - 512) = e.val := by omega
    have hw : ∀ y : Fin 3072, lead (woHi I) (ix3 (0 : Fin 1) (⟨e.val - 512, by omega⟩ : Fin 256) y) = I.wo (ix2 e y) := by
      intro y
      unfold lead woHi
      refine congrArg I.wo (funext fun a => Fin.ext ?_)
      match a with
      | ⟨0, _⟩ => exact he
      | ⟨1, _⟩ => rfl
    have hl : lmHi I (ix2 b (⟨e.val - 512, by omega⟩ : Fin 256)) = I.lm (ix2 b e) := by
      unfold lmHi
      refine congrArg I.lm (funext fun a => Fin.ext ?_)
      match a with
      | ⟨0, _⟩ => rfl
      | ⟨1, _⟩ => exact he
    rw [hl]
    exact congrArg (fun z => sig_ (z + I.lm (ix2 b e))) (Finset.sum_congr rfl fun y _ => congrArg (T (ix2 b y) * ·) (hw y))

/-- **The output layer is the reference's.** -/
theorem result_eq (x : FVec Ideal S256x768 .f32) (S : FVec Ideal S20x768x768 .f32) (k : FVec Ideal S768x768 .f32)
    (hl : I.lm = proL x (shapeCast S768x768 (extractStridedSlice S1x768x768 ![19, 0, 0] S Ref.facts.slices_S20x768x768_S1x768x768_19_0_0)
      Ref.facts.shapeCasts_S1x768x768_S768x768) k) (h : FVec Ideal S256x3072 .f32) :
    result I (Ref.llr h) = Ref.ending x I.wo S k h := by
  funext j
  obtain ⟨b, e, rfl⟩ : ∃ (b : Fin 256) (e : Fin 768), j = ix2 b e := ⟨j 0, j 1, eq_ix2 j⟩
  rw [result_at, hl, proL_at]
  pointwise [Ref.ending]

/-! ## The layers picked -/

/-- The counter of trip `k` reads `k`. -/
theorem iv_toInt (k : ℕ) (hk : k < 19) : (Scf.iv 0#32 1#32 k : BitVec 32).toInt = k := by
  have key : ∀ k : Fin 19, (Scf.iv 0#32 1#32 k.val : BitVec 32).toInt = k.val := by decide
  exact key ⟨k, hk⟩

/-- An array of three axes read at equal coordinates. -/
theorem read3 {n0 n1 n2 : ℕ} {α : Type} (W : (⟨3, ![n0, n1, n2]⟩ : Shape).Idx → α) {a a' : ℕ} {b b' : Fin n1} {c c' : Fin n2}
    (h : a < n0) (h' : a' < n0) (ha : a = a') (hb : b = b') (hc : c = c') : W (ix3 ⟨a, h⟩ b c) = W (ix3 ⟨a', h'⟩ b' c') := by
  subst ha hb hc; rfl

/-- Trip `k` takes layer `k` of the weights, -/
theorem pickW_at (W : FVec Ideal S19x3072x3072 .f32) (k : ℕ) (hk : k < 19) (x y : Fin 3072) :
    Ref.pickW W (fun _ => Scf.iv 0#32 1#32 k) (ix2 x y) = W (ix3 (⟨k % 19, Nat.mod_lt _ (by decide)⟩ : Fin 19) x y) := by
  pointwise [Ref.pickW]
  refine read3 W _ _ ?_ (Fin.ext ?_) (Fin.ext ?_)
  · exact (Host.clampedStart_of_le _ _ 0 k (iv_toInt k hk) (by show k + 1 ≤ 19; omega)).trans (Nat.mod_eq_of_lt hk).symm
  · exact (congrArg (· + x.val) (Host.clampedStart_of_le _ _ 1 0 rfl (by show 0 + 3072 ≤ 3072; omega))).trans (Nat.zero_add _)
  · exact (congrArg (· + y.val) (Host.clampedStart_of_le _ _ 2 0 rfl (by show 0 + 3072 ≤ 3072; omega))).trans (Nat.zero_add _)

/-- and channel matrix `k`, which is the first one where all nineteen are. -/
theorem pickS_at (S : FVec Ideal S20x768x768 .f32) (k : ℕ) (hk : k < 19) (x y : Fin 768) :
    Ref.pickS (extractStridedSlice S19x768x768 ![0, 0, 0] S Ref.facts.slices_S20x768x768_S19x768x768_0_0_0) (fun _ => Scf.iv 0#32 1#32 k) (ix2 x y)
      = S (ix3 (⟨k, by omega⟩ : Fin 20) x y) := by
  pointwise [Ref.pickS]
  refine read3 S _ _ ?_ (Fin.ext ?_) (Fin.ext ?_)
  · exact (Host.clampedStart_of_le _ _ 0 k (iv_toInt k hk) (by show k + 1 ≤ 19; omega))
  · exact (congrArg (· + x.val) (Host.clampedStart_of_le _ _ 1 0 rfl (by show 0 + 768 ≤ 768; omega))).trans (Nat.zero_add _)
  · exact (congrArg (· + y.val) (Host.clampedStart_of_le _ _ 2 0 rfl (by show 0 + 768 ≤ 768; omega))).trans (Nat.zero_add _)

end Cert.Proof

end
-- ==== Proof.Pre.lean ====
/-
  The precondition read: the first nineteen channel matrices agree, and both adjacencies are of zeros and ones with at
  most seven ones in a row.
-/
module

public import proofs.«01_k».proof.Defs
public import proofs.«01_k».proof.Proof.Scal
public import Idealize.ShloMosaic.Lib.ReduceAll

@[expose] public section

noncomputable section

namespace Cert.Proof.Pre

open Idealize.ShloMosaic
open Cert.Pre_tanner_graph

/-- The precondition's side conditions. -/
theorem facts : Facts where
  slices_S20x768x768_S19x768x768_0_0_0 := by decide
  slices_S20x768x768_S1x768x768_0_0_0 := by decide
  bcast_S1x768x768_S19x768x768_0_1_2 := by decide
  reducesTo_S19x768x768_S_d0_1_2 := by decide
  h_S_ := by decide
  bcast_S_S3072x768 := by decide
  reducesTo_S3072x768_S_d0_1 := by decide
  reducesTo_S3072x768_S3072_d1 := by decide
  bcast_S_S3072 := by decide
  reducesTo_S3072_S_d0 := by decide
  bcast_S_S3072x3072 := by decide
  reducesTo_S3072x3072_S_d0_1 := by decide
  reducesTo_S3072x3072_S3072_d1 := by decide

attribute [local instance] facts

set_option maxRecDepth 16384

theorem ofBool_one {q : Bool} (h : BitVec.ofBool q = 1#1) : q = true := by revert h; cases q <;> decide
theorem ori_one {a b : BitVec 1} (h : IntOp.ori a b = 1#1) : a = 1#1 ∨ b = 1#1 := by revert a b; decide

/-- What the precondition says of the channel matrices and of the two adjacencies. -/
theorem read (x : FVec Ideal S256x768 .f32) (W : FVec Ideal S19x3072x3072 .f32) (wo : FVec Ideal S768x3072 .f32)
    (S : FVec Ideal S20x768x768 .f32) (bm : FVec Ideal S768x3072 .f32) (k : FVec Ideal S768x768 .f32)
    (mf : FVec Ideal S3072x768 .f32) (M : FVec Ideal S3072x3072 .f32)
    (h : fn (F := Ideal) x W wo S bm k mf M = fun _ => 1#1) :
    (∀ (l : Fin 19) (u z : Fin 768), S (ix3 (⟨l.val, by omega⟩ : Fin 20) u z) = S (ix3 (0 : Fin 20) u z))
      ∧ (∀ e : Fin 3072, Row fun k : Fin 768 => mf (ix2 e k)) ∧ (∀ e : Fin 3072, Row fun k : Fin 3072 => M (ix2 e k)) := by
  haveI : Subsingleton S_.Idx := ⟨fun a b => funext fun i => i.elim0⟩
  have h0 := congrFun h (Shape.Idx.first Facts.h_S_)
  unfold fn fn_part1 at h0
  obtain ⟨h12, h3⟩ := IntOp.andi_eq_one.1 h0
  obtain ⟨hS, hV⟩ := IntOp.andi_eq_one.1 h12
  obtain ⟨hV1, hV2⟩ := IntOp.andi_eq_one.1 hV
  obtain ⟨hE1, hE2⟩ := IntOp.andi_eq_one.1 h3
  refine ⟨fun l u z => ?_, fun e => ⟨fun k => ?_, ?_⟩, fun e => ⟨fun k => ?_, ?_⟩⟩
  · have := Host.reduce_andi_all _ _ _ _ _ hS (ix3 l u z)
    pointwise at this
    exact of_decide_eq_true (ofBool_one this)
  · have := Host.reduce_andi_all _ _ _ _ _ hV1 (ix2 e k)
    pointwise at this
    obtain h | h := ori_one this
    · exact Or.inl (of_decide_eq_true (ofBool_one h))
    · exact Or.inr (of_decide_eq_true (ofBool_one h))
  · have := Host.reduce_andi_all _ _ _ _ _ hV2 (ix1 e)
    pointwise at this
    exact of_decide_eq_true (ofBool_one this)
  · have := Host.reduce_andi_all _ _ _ _ _ hE1 (ix2 e k)
    pointwise at this
    obtain h | h := ori_one this
    · exact Or.inl (of_decide_eq_true (ofBool_one h))
    · exact Or.inr (of_decide_eq_true (ofBool_one h))
  · have := Host.reduce_andi_all _ _ _ _ _ hE2 (ix1 e)
    pointwise at this
    exact of_decide_eq_true (ofBool_one this)

end Cert.Proof.Pre

end
-- ==== Proof.RefRun.lean ====
/-
  The reference's run: it ends, its arguments as launched, its result the decoder's nineteen trips read off them.
-/
module

public import proofs.«01_k».proof.Proof.RefRead
public import Idealize.ShloMosaic.Lib.Quiescent

@[expose] public section

noncomputable section

namespace Cert.Proof.Ref

open Cert.ReferenceIdeal Cert.ReferenceIdeal.Facts₀ Cert.ReferenceIdeal.Facts
open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem

attribute [local instance] facts

variable {F : FTy → Type} [FloatOps F]

set_option maxRecDepth 65536
set_option maxHeartbeats 1000000

/-- The arguments, and the carried arrays that no trip changes. -/
abbrev args : List (Ref sig .tc) := [main_arg0, main_arg1, main_arg2, main_arg3, main_arg4, main_arg5, main_arg6, main_arg7]
abbrev carried : List (Ref sig .tc) := [main_v30_0, main_v30_1, main_v30_2, main_v30_3, main_v30_4]

section
variable (V : Valuation τ sig (Elt F))

/-- The stretches leave the arguments; -/
theorem pre_args : ∀ r ∈ args, afterL preI V (Proc.devRef .tc r) = V (Proc.devRef .tc r) := by
  simp only [args, List.forall_mem_cons, List.not_mem_nil, false_imp_iff, implies_true, and_true, afterL_cons, afterL_nil]
  refine ⟨?_, ?_, ?_, ?_, ?_, ?_, ?_, ?_⟩ <;> after_reads_simp
theorem post_args : ∀ r ∈ args, afterL postI V (Proc.devRef .tc r) = V (Proc.devRef .tc r) := by
  simp only [args, List.forall_mem_cons, List.not_mem_nil, false_imp_iff, implies_true, and_true, afterL_cons, afterL_nil]
  refine ⟨?_, ?_, ?_, ?_, ?_, ?_, ?_, ?_⟩ <;> after_reads_simp

/-- a trip leaves the carried arrays too, and the condition everything carried. -/
theorem body_keeps : ∀ r ∈ args ++ carried, afterL bodyI V (Proc.devRef .tc r) = V (Proc.devRef .tc r) := by
  simp only [args, carried, List.cons_append, List.nil_append, List.forall_mem_cons, List.not_mem_nil, false_imp_iff,
    implies_true, and_true, afterL_cons, afterL_nil]
  refine ⟨?_, ?_, ?_, ?_, ?_, ?_, ?_, ?_, ?_, ?_, ?_, ?_, ?_⟩ <;> after_reads_simp
theorem cond_keeps : ∀ r ∈ args ++ carried ++ [main_v30_5, main_v30_6], after condOps V (Proc.devRef .tc r) = V (Proc.devRef .tc r) := by
  simp only [args, carried, List.cons_append, List.nil_append, List.forall_mem_cons, List.not_mem_nil, false_imp_iff,
    implies_true, and_true]
  refine ⟨?_, ?_, ?_, ?_, ?_, ?_, ?_, ?_, ?_, ?_, ?_, ?_, ?_, ?_, ?_⟩ <;> after_reads_simp

/-- The carried arrays at the loop's entry. -/
theorem pre_carried : afterL preI V (main_v30_0 : DevRef τ sig) = V (main_arg1 : DevRef τ sig)
    ∧ afterL preI V (main_v30_1 : DevRef τ sig)
        = extractStridedSlice S19x768x768 ![0, 0, 0] (V (main_arg3 : DevRef τ sig)) slices_S20x768x768_S19x768x768_0_0_0
    ∧ afterL preI V (main_v30_2 : DevRef τ sig) = V (main_arg0 : DevRef τ sig)
    ∧ afterL preI V (main_v30_3 : DevRef τ sig) = V (main_arg4 : DevRef τ sig)
    ∧ afterL preI V (main_v30_4 : DevRef τ sig) = V (main_arg7 : DevRef τ sig)
    ∧ afterL preI V (main_v30_5 : DevRef τ sig) = fun _ => (0#32 : BitVec 32) := by
  simp only [afterL_cons, afterL_nil]
  refine ⟨?_, ?_, ?_, ?_, ?_, ?_⟩ <;> after_reads_simp <;> rfl

/-- One trip: the counter steps, -/
theorem body_ctr : afterL bodyI V (main_v30_5 : DevRef τ sig)
    = addi (V (main_v30_5 : DevRef τ sig) : IVec S_ 32) (constantI S_ 32 1#32) := by
  simp only [afterL_cons, afterL_nil]
  after_reads_simp
  rfl

/-- and the products step by `trip` on the layers it picks. -/
theorem body_h : afterL bodyI V (main_v30_6 : DevRef τ sig)
    = trip (pickW (V (main_v30_0 : DevRef τ sig)) (V (main_v30_5 : DevRef τ sig)))
        (pickS (V (main_v30_1 : DevRef τ sig)) (V (main_v30_5 : DevRef τ sig)))
        (V (main_v30_2 : DevRef τ sig)) (V (main_v30_3 : DevRef τ sig)) (V (main_v30_4 : DevRef τ sig)) (V (main_v30_6 : DevRef τ sig)) := by
  rw [show afterL bodyI V = afterL tailI (after (pickSOps (.of main_v30_1) (.of main_v30_5) main_while0b_call4)
    (after (pickWOps (.of main_v30_0) (.of main_v30_5) main_while0b_call3) V)) from rfl, tail_h, pick_s]
  have hw : after (pickSOps (.of main_v30_1) (.of main_v30_5) main_while0b_call4)
      (after (pickWOps (.of main_v30_0) (.of main_v30_5) main_while0b_call3) V) (main_while0b_v48 : DevRef τ sig)
      = after (pickWOps (.of main_v30_0) (.of main_v30_5) main_while0b_call3) V (main_while0b_v48 : DevRef τ sig) :=
    after_of_writes_sub (W := [main_while0b_call4_c, main_while0b_call4_c_0, main_while0b_call4_v0, main_while0b_v49]) _ _
      (StableHlo.forall_writes_sub_of_map rfl) (by decide)
  rw [hw, pick_w]
  after_reads_simp

end

variable (m : (ℓ : Loc nD τ sig) → Buf (Elt F) ℓ)

/-- The products after `k` trips, from the arguments. -/
def prods (c : Dev nD) : ℕ → FVec F S256x3072 .f32
  | 0 => first (m ((c.tc : Thread nD τ).loc main_arg0)) (m ((c.tc : Thread nD τ).loc main_arg6))
  | k + 1 => trip (pickW (m ((c.tc : Thread nD τ).loc main_arg1)) (fun _ => Scf.iv 0#32 1#32 k))
      (pickS (extractStridedSlice S19x768x768 ![0, 0, 0] (m ((c.tc : Thread nD τ).loc main_arg3)) slices_S20x768x768_S19x768x768_0_0_0)
        (fun _ => Scf.iv 0#32 1#32 k))
      (m ((c.tc : Thread nD τ).loc main_arg0)) (m ((c.tc : Thread nD τ).loc main_arg4)) (m ((c.tc : Thread nD τ).loc main_arg7)) (prods c k)

/-- What the carried arrays hold when the condition runs for the `k`-th time. -/
structure At (c : Dev nD) (X : Valuation τ sig (Elt F)) (k : ℕ) : Prop where
  args : ∀ r ∈ args, X (Proc.devRef .tc r) = m ((c.tc : Thread nD τ).loc r)
  w : X (main_v30_0 : DevRef τ sig) = m ((c.tc : Thread nD τ).loc main_arg1)
  s : X (main_v30_1 : DevRef τ sig)
    = extractStridedSlice S19x768x768 ![0, 0, 0] (m ((c.tc : Thread nD τ).loc main_arg3)) slices_S20x768x768_S19x768x768_0_0_0
  x : X (main_v30_2 : DevRef τ sig) = m ((c.tc : Thread nD τ).loc main_arg0)
  b : X (main_v30_3 : DevRef τ sig) = m ((c.tc : Thread nD τ).loc main_arg4)
  M : X (main_v30_4 : DevRef τ sig) = m ((c.tc : Thread nD τ).loc main_arg7)
  ctr : X (main_v30_5 : DevRef τ sig) = fun _ => Scf.iv 0#32 1#32 k
  h : X (main_v30_6 : DevRef τ sig) = prods m c k

theorem At.entry (c : Dev nD) : At m c (entryContents preI m c) 0 := by
  obtain ⟨h0, h1, h2, h3, h4, h5⟩ := pre_carried (launchContents m c)
  exact ⟨fun r hr => pre_args _ r hr, h0, h1, h2, h3, h4, h5.trans (by rw [Scf.iv_zero]), pre_h _⟩

theorem At.cond {c : Dev nD} {X : Valuation τ sig (Elt F)} {k : ℕ} (h : At m c X k) : At m c (after condOps X) k where
  args r hr := (cond_keeps X r (by simp only [List.mem_append]; exact .inl (.inl hr))).trans (h.args r hr)
  w := (cond_keeps X main_v30_0 (by decide)).trans h.w
  s := (cond_keeps X main_v30_1 (by decide)).trans h.s
  x := (cond_keeps X main_v30_2 (by decide)).trans h.x
  b := (cond_keeps X main_v30_3 (by decide)).trans h.b
  M := (cond_keeps X main_v30_4 (by decide)).trans h.M
  ctr := (cond_keeps X main_v30_5 (by decide)).trans h.ctr
  h := (cond_keeps X main_v30_6 (by decide)).trans h.h

theorem At.body {c : Dev nD} {X : Valuation τ sig (Elt F)} {k : ℕ} (h : At m c X k) : At m c (afterL bodyI X) (k + 1) where
  args r hr := (body_keeps X r (List.mem_append.2 (.inl hr))).trans (h.args r hr)
  w := (body_keeps X main_v30_0 (by decide)).trans h.w
  s := (body_keeps X main_v30_1 (by decide)).trans h.s
  x := (body_keeps X main_v30_2 (by decide)).trans h.x
  b := (body_keeps X main_v30_3 (by decide)).trans h.b
  M := (body_keeps X main_v30_4 (by decide)).trans h.M
  ctr := by rw [body_ctr, h.ctr, Scf.iv_succ]; rfl
  h := by rw [body_h, h.w, h.s, h.x, h.b, h.M, h.ctr, h.h]; rfl

theorem at_trip (c : Dev nD) : ∀ k, At m c (atTrip condOps bodyI (entryContents preI m) k c) k
  | 0 => At.entry m c
  | k + 1 => (at_trip c k).cond.body

/-! The stretches' operations touch only the core's own arrays: the called functions', then each stretch. -/
theorem whereAOps_sub (arg0 : TRef sig ⟨S256x768, .i1⟩) (arg1 : TRef sig ⟨S256x768, .f32⟩) (arg2 : TRef sig ⟨S_, .f32⟩) (φ : fn_where.Bufs) :
    (whereAOps arg0 arg1 arg2 φ : List (HloOp τ sig (Elt F))).Forall fun op => op.bufs ⊆ tcRefs τ sig :=
    ⟨unary_bufs_sub .., unary_bufs_sub .., ternary_bufs_sub ..⟩
theorem whereBOps_sub (arg0 : TRef sig ⟨S256x3072, .i1⟩) (arg1 : TRef sig ⟨S256x3072, .f32⟩) (arg2 : TRef sig ⟨S256x3072, .f32⟩) (φ : fn_where_0.Bufs) :
    (whereBOps arg0 arg1 arg2 φ : List (HloOp τ sig (Elt F))).Forall fun op => op.bufs ⊆ tcRefs τ sig :=
    ternary_bufs_sub ..
theorem whereCOps_sub (arg0 : TRef sig ⟨S256x3072, .i1⟩) (arg1 : TRef sig ⟨S256x3072, .f32⟩) (arg2 : TRef sig ⟨S_, .f32⟩) (φ : fn_where_2.Bufs) :
    (whereCOps arg0 arg1 arg2 φ : List (HloOp τ sig (Elt F))).Forall fun op => op.bufs ⊆ tcRefs τ sig :=
    ⟨unary_bufs_sub .., unary_bufs_sub .., ternary_bufs_sub ..⟩
theorem remainderOps_sub (arg0 : TRef sig ⟨S256x3072, .f32⟩) (arg1 : TRef sig ⟨S_, .f32⟩) (φ : fn_remainder.Bufs) :
    (remainderOps arg0 arg1 φ : List (HloOp τ sig (Elt F))).Forall fun op => op.bufs ⊆ tcRefs τ sig :=
    ⟨unary_bufs_sub .., unary_bufs_sub .., binary_bufs_sub .., nullary_bufs_sub .., unary_bufs_sub ..,
    binary_bufs_sub .., nullary_bufs_sub .., unary_bufs_sub .., binary_bufs_sub .., nullary_bufs_sub ..,
    binary_bufs_sub .., unary_bufs_sub .., binary_bufs_sub .., binary_bufs_sub .., unary_bufs_sub ..,
    binary_bufs_sub .., ternary_bufs_sub ..⟩
theorem clipOps_sub (arg0 : TRef sig ⟨S256x3072, .f32⟩) (arg1 : TRef sig ⟨S_, .f32⟩) (arg2 : TRef sig ⟨S_, .f32⟩) (φ : fn_clip.Bufs) :
    (clipOps arg0 arg1 arg2 φ : List (HloOp τ sig (Elt F))).Forall fun op => op.bufs ⊆ tcRefs τ sig :=
    ⟨unary_bufs_sub .., unary_bufs_sub .., binary_bufs_sub .., unary_bufs_sub .., unary_bufs_sub .., binary_bufs_sub
    ..⟩
theorem pickWOps_sub (arg0 : TRef sig ⟨S19x3072x3072, .f32⟩) (arg1 : TRef sig ⟨S_, .i32⟩) (φ : fn_dynamic_index_in_dim.Bufs) :
    (pickWOps arg0 arg1 φ : List (HloOp τ sig (Elt F))).Forall fun op => op.bufs ⊆ tcRefs τ sig :=
    ⟨nullary_bufs_sub .., nullary_bufs_sub .., unaryIndexed_bufs_sub .., reshape_bufs_sub ..⟩
theorem pickSOps_sub (arg0 : TRef sig ⟨S19x768x768, .f32⟩) (arg1 : TRef sig ⟨S_, .i32⟩) (φ : fn_dynamic_index_in_dim_1.Bufs) :
    (pickSOps arg0 arg1 φ : List (HloOp τ sig (Elt F))).Forall fun op => op.bufs ⊆ tcRefs τ sig :=
    ⟨nullary_bufs_sub .., nullary_bufs_sub .., unaryIndexed_bufs_sub .., reshape_bufs_sub ..⟩
theorem pre0_sub : (pre0 : List (HloOp τ sig (Elt F))).Forall fun op => op.bufs ⊆ tcRefs τ sig :=
    ⟨nullary_bufs_sub .., unary_bufs_sub .., binary_bufs_sub .., unary_bufs_sub .., nullary_bufs_sub ..,
    unary_bufs_sub .., binary_bufs_sub .., nullary_bufs_sub ..⟩
theorem pre1_sub : (pre1 : List (HloOp τ sig (Elt F))).Forall fun op => op.bufs ⊆ tcRefs τ sig :=
    ⟨unary_bufs_sub .., unary_bufs_sub .., unary_bufs_sub .., binary_bufs_sub .., nullary_bufs_sub ..,
    unary_bufs_sub .., binary_bufs_sub .., unary_bufs_sub .., unary_bufs_sub .., binary_bufs_sub .., unary_bufs_sub
    .., unary_bufs_sub .., binary_bufs_sub .., unary_bufs_sub .., nullary_bufs_sub ..⟩
theorem pre2_sub : (pre2 : List (HloOp τ sig (Elt F))).Forall fun op => op.bufs ⊆ tcRefs τ sig :=
    ⟨nullary_bufs_sub .., unary_bufs_sub .., binary_bufs_sub .., nullary_bufs_sub .., unary_bufs_sub ..,
    binary_bufs_sub .., binary_bufs_sub .., nullary_bufs_sub .., unary_bufs_sub .., binary_bufs_sub ..,
    nullary_bufs_sub .., unary_bufs_sub ..⟩
theorem pre3_sub : (pre3 : List (HloOp τ sig (Elt F))).Forall fun op => op.bufs ⊆ tcRefs τ sig :=
    ⟨unary_bufs_sub .., nullary_bufs_sub .., unary_bufs_sub .., unary_bufs_sub .., unary_bufs_sub .., unary_bufs_sub
    .., unary_bufs_sub .., unary_bufs_sub .., unary_bufs_sub ..⟩
theorem body0_sub : (body0 : List (HloOp τ sig (Elt F))).Forall fun op => op.bufs ⊆ tcRefs τ sig :=
    ⟨nullary_bufs_sub .., nullary_bufs_sub ..⟩
theorem body1_sub : (body1 : List (HloOp τ sig (Elt F))).Forall fun op => op.bufs ⊆ tcRefs τ sig :=
    ⟨unary_bufs_sub .., nullary_bufs_sub .., unary_bufs_sub .., binary_bufs_sub .., unary_bufs_sub ..,
    binary_bufs_sub .., binary_bufs_sub .., binary_bufs_sub .., binary_bufs_sub .., nullary_bufs_sub ..,
    unary_bufs_sub .., binary_bufs_sub .., unary_bufs_sub .., nullary_bufs_sub .., unary_bufs_sub ..,
    binary_bufs_sub .., nullary_bufs_sub ..⟩
theorem body2_sub : (body2 : List (HloOp τ sig (Elt F))).Forall fun op => op.bufs ⊆ tcRefs τ sig :=
    ⟨unary_bufs_sub .., unary_bufs_sub .., unary_bufs_sub .., binary_bufs_sub .., nullary_bufs_sub ..,
    unary_bufs_sub .., binary_bufs_sub .., unary_bufs_sub .., unary_bufs_sub .., binary_bufs_sub .., unary_bufs_sub
    .., unary_bufs_sub .., binary_bufs_sub .., unary_bufs_sub .., nullary_bufs_sub ..⟩
theorem body3_sub : (body3 : List (HloOp τ sig (Elt F))).Forall fun op => op.bufs ⊆ tcRefs τ sig :=
    ⟨nullary_bufs_sub .., unary_bufs_sub .., binary_bufs_sub .., nullary_bufs_sub .., unary_bufs_sub ..,
    binary_bufs_sub .., binary_bufs_sub .., nullary_bufs_sub .., unary_bufs_sub .., binary_bufs_sub ..,
    nullary_bufs_sub .., unary_bufs_sub ..⟩
theorem body4_sub : (body4 : List (HloOp τ sig (Elt F))).Forall fun op => op.bufs ⊆ tcRefs τ sig :=
    ⟨nullary_bufs_sub .., binary_bufs_sub .., unary_bufs_sub .., unary_bufs_sub ..⟩
theorem post0_sub : (post0 : List (HloOp τ sig (Elt F))).Forall fun op => op.bufs ⊆ tcRefs τ sig :=
    ⟨nullary_bufs_sub .., nullary_bufs_sub ..⟩
theorem post1_sub : (post1 : List (HloOp τ sig (Elt F))).Forall fun op => op.bufs ⊆ tcRefs τ sig :=
    ⟨unary_bufs_sub .., nullary_bufs_sub .., unary_bufs_sub .., binary_bufs_sub .., unary_bufs_sub ..,
    binary_bufs_sub .., unary_bufs_sub .., reshape_bufs_sub .., binary_bufs_sub .., binary_bufs_sub ..,
    binary_bufs_sub .., unary_bufs_sub .., unary_bufs_sub .., nullary_bufs_sub .., unary_bufs_sub ..,
    binary_bufs_sub .., nullary_bufs_sub .., unary_bufs_sub .., binary_bufs_sub ..⟩

theorem plain_pre : Plain (preI (F := F)) :=
  .cons pre0_sub (.cons (whereAOps_sub ..) (.cons pre1_sub (.cons (remainderOps_sub ..) (.cons pre2_sub
    (.cons (whereBOps_sub ..) (.cons pre3_sub .nil))))))
theorem plain_body : Plain (bodyI (F := F)) :=
  .cons (pickWOps_sub ..) (.cons (pickSOps_sub ..) (.cons body0_sub (.cons (clipOps_sub ..) (.cons body1_sub
    (.cons (whereCOps_sub ..) (.cons body2_sub (.cons (remainderOps_sub ..) (.cons body3_sub
      (.cons (whereBOps_sub ..) (.cons body4_sub .nil))))))))))
theorem plain_post : Plain (postI (F := F)) := .cons post0_sub (.cons (clipOps_sub ..) (.cons post1_sub .nil))

set_option backward.isDefEq.respectTransparency.types false in
/-- The condition compares the counter with nineteen. -/
theorem cond_spec : CondSpec (pcfgs (F := F)) defs₀ loops (main_while0_cond (F := F)) condOps bodyI (entryContents preI m) 19 := by
  intro k hk c bd
  have hctr := (at_trip m c k).ctr
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI (entryContents preI m) k c) main_v30_5 HostLoop.idx0)
        (HloOp.result _ (atTrip condOps bodyI (entryContents preI m) k c) main_while0c_c_19 HostLoop.idx0) = 1#1) (k < 19)
    rw [nullary_result_ne _ _ _ _ (by decide), nullary_result, hctr]
    exact Scf.cmpi_slt_iv_ub_iff (lb := 0#32) (ub := 19#32) (st := 1#32) (by decide) (show k ≤ Scf.trips 0#32 19#32 1#32 from hk)
  isplitl [Hb]; · iexact Hb
  rw [after_cons, after_cons, after_nil]; iexact Hh

/-- What the run leaves: the arguments, and the result read off the nineteenth trip's products. -/
theorem run (ρ : Dev nD → PrngReg) : θ_run (defs (F := F)) (onTc (τ := τ) (main (F := F))) ⟨m, fun _ => 0, ρ⟩
    (fun r => (∀ c : Dev nD,
      (∀ b ∈ args, r.2.mem ((c.tc : Thread nD τ).loc b) = m ((c.tc : Thread nD τ).loc b))
      ∧ r.2.mem ((c.tc : Thread nD τ).loc main_v47)
        = ending (m ((c.tc : Thread nD τ).loc main_arg0)) (m ((c.tc : Thread nD τ).loc main_arg2))
            (m ((c.tc : Thread nD τ).loc main_arg3)) (m ((c.tc : Thread nD τ).loc main_arg5)) (prods m c 19))
      ∧ r.2.sem = fun _ => 0) := by
  refine (θ_run _ _ _).mono (fun r h => ⟨fun c => ?_, sem_eq_zero_of_no_sems (by decide) r.2⟩)
    (run_loop pcfgs defs₀ loops main 0 main_while0_cond main_while0_body rfl preI bodyI postI condOps
      plain_pre plain_body plain_post main_eq body_eq 19 m ρ (cond_spec m))
  have hX := (at_trip m c 19).cond
  refine ⟨fun b hb => ?_, ?_⟩
  · rw [h c b ((by decide : ∀ r ∈ args, (Proc.devRef (τ := τ) .tc r).isScoped = false) b hb)]
    exact (post_args _ b hb).trans (hX.args b hb)
  · rw [h c main_v47 (by decide)]
    refine (post_h _).trans ?_
    rw [hX.h, show _ = _ from hX.args main_arg0 (by decide), show _ = _ from hX.args main_arg2 (by decide),
      show _ = _ from hX.args main_arg3 (by decide), show _ = _ from hX.args main_arg5 (by decide)]

end Cert.Proof.Ref

end
-- ==== Proof.Equal.lean ====
/-
  The kernel's result is the reference's, over the extended reals, on a Tanner graph's arrays.
-/
module

public import proofs.«01_k».proof.Proof.Value
public import proofs.«01_k».proof.Proof.Pre
public import proofs.«01_k».proof.Proof.RefRun

@[expose] public section

noncomputable section

namespace Cert.Proof

open Idealize.ShloMosaic Idealize.ShloMosaic.StableHlo Idealize.ShloMosaic.TcCoe
open Cert.KernelIdeal Cert.KernelIdeal.Gen
open Cert.ReferenceIdeal (S19x768x768)

attribute [local instance] Ref.facts Cert.KernelIdeal.Gen.facts Pre.facts

set_option maxRecDepth 65536

section
variable (x : FVec Ideal S256x768 .f32) (W : FVec Ideal S19x3072x3072 .f32) (wo : FVec Ideal S768x3072 .f32)
  (S : FVec Ideal S20x768x768 .f32) (bm : FVec Ideal S768x3072 .f32) (k : FVec Ideal S768x768 .f32)
  (mf : FVec Ideal S3072x768 .f32) (M : FVec Ideal S3072x3072 .f32)

/-- The first channel matrix, and the last. -/
def sFirst : FVec Ideal S768x768 .f32 :=
  shapeCast S768x768 (extractStridedSlice S1x768x768 ![0, 0, 0] S Cert.KernelIdeal.Gen.facts.slices_S20x768x768_S1x768x768_0_0_0)
    Cert.KernelIdeal.Gen.facts.shapeCasts_S1x768x768_S768x768
def sLast : FVec Ideal S768x768 .f32 :=
  shapeCast S768x768 (extractStridedSlice S1x768x768 ![19, 0, 0] S Cert.KernelIdeal.Gen.facts.slices_S20x768x768_S1x768x768_19_0_0)
    Cert.KernelIdeal.Gen.facts.shapeCasts_S1x768x768_S768x768

/-- What the layers are given, from the arguments. -/
def given : Ins Ideal where
  t0 := proT x mf
  bias := proB x (sFirst S) bm
  lm := proL x (sLast S) k
  w := W
  M := M
  wo := wo

/-- The reference's products after `n` trips, from the arguments. -/
def trips : ℕ → FVec Ideal S256x3072 .f32
  | 0 => Ref.first x mf
  | n + 1 => Ref.trip (Ref.pickW W (fun _ => Scf.iv 0#32 1#32 n))
      (Ref.pickS (extractStridedSlice S19x768x768 ![0, 0, 0] S Ref.facts.slices_S20x768x768_S19x768x768_0_0_0)
        (fun _ => Scf.iv 0#32 1#32 n)) x bm M (trips n)

variable (h : Cert.Pre_tanner_graph.fn (F := Ideal) x W wo S bm k mf M = fun _ => 1#1)
include h

/-- Every trip's channel matrix is the first. -/
theorem pickS_first (n : ℕ) (hn : n < 19) :
    Ref.pickS (extractStridedSlice S19x768x768 ![0, 0, 0] S Ref.facts.slices_S20x768x768_S19x768x768_0_0_0) (fun _ => Scf.iv 0#32 1#32 n) = sFirst S := by
  funext j
  obtain ⟨u, z, rfl⟩ : ∃ (u : Fin 768) (z : Fin 768), j = ix2 u z := ⟨j 0, j 1, eq_ix2 j⟩
  rw [pickS_at S n hn, (Pre.read x W wo S bm k mf M h).1 ⟨n, hn⟩ u z]
  pointwise [sFirst]

/-- **Before layer `n` the kernel holds the messages of the reference's products after `n` trips.** -/
theorem at_trips (n : ℕ) (hn : n ≤ 19) : at_ (given x W wo S bm k mf M) n = Ref.llr (trips x W S bm mf M n) := by
  obtain ⟨-, hV, hE⟩ := Pre.read x W wo S bm k mf M h
  induction n with
  | zero => exact proT_eq x mf hV
  | succ n ih =>
    show layer (given x W wo S bm k mf M) (at_ (given x W wo S bm k mf M) n) n = _
    rw [ih (by omega), layer_trip (given x W wo S bm k mf M) hE n (Ref.pickW W (fun _ => Scf.iv 0#32 1#32 n))
      (fun a b => pickW_at W n (by omega) a b)
      (Ref.pickS (extractStridedSlice S19x768x768 ![0, 0, 0] S Ref.facts.slices_S20x768x768_S19x768x768_0_0_0) (fun _ => Scf.iv 0#32 1#32 n))
      x bm (by rw [pickS_first x W wo S bm k mf M h n (by omega)]; rfl)]
    rfl

/-- **The two results agree.** -/
theorem results_eq : result (given x W wo S bm k mf M) (at_ (given x W wo S bm k mf M) 19) = Ref.ending x wo S k (trips x W S bm mf M 19) := by
  rw [at_trips x W wo S bm k mf M h 19 le_rfl]
  exact result_eq (given x W wo S bm k mf M) x S k rfl _

end

/-! ## Off the two memories -/

/-- The arrays the host stretch before the prologue makes are the first and the last channel matrix. -/
theorem v1_first (m : (ℓ : Loc nD τ sig) → Buf (Elt Ideal) ℓ) (c : Dev nD) : V1 m c main_v1 = sFirst (m ((c.tc : Thread nD τ).loc main_arg3)) := by
  show after hostOps0 (V0 m c) (main_v1 : DevRef τ sig) = _
  after_reads_simp
  rfl
theorem v3_last (m : (ℓ : Loc nD τ sig) → Buf (Elt Ideal) ℓ) (c : Dev nD) : V1 m c main_v3 = sLast (m ((c.tc : Thread nD τ).loc main_arg3)) := by
  show after hostOps0 (V0 m c) (main_v3 : DevRef τ sig) = _
  after_reads_simp
  rfl

/-- The kernel's result is the layers' on what the arguments give. -/
theorem outOf_eq (m : (ℓ : Loc nD τ sig) → Buf (Elt Ideal) ℓ) (c : Dev nD) :
    outOf m c = result (given (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)))
      (at_ (given (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))) 19) := by
  have e : insOf m c = given (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
    unfold insOf given
    rw [v1_first, v3_last, V1_of m c main_arg0 (by decide), V1_of m c main_arg1 (by decide), V1_of m c main_arg2 (by decide),
      V1_of m c main_arg4 (by decide), V1_of m c main_arg5 (by decide), V1_of m c main_arg6 (by decide), V1_of m c main_arg7 (by decide)]
  unfold outOf
  rw [e]

/-- The reference's products are the trips on its arguments. -/
theorem prods_eq (m : (ℓ : Loc Cert.ReferenceIdeal.nD Cert.ReferenceIdeal.τ Cert.ReferenceIdeal.sig) → Buf (Elt Ideal) ℓ)
    (c : Dev Cert.ReferenceIdeal.nD) (n : ℕ) :
    Ref.prods m c n = trips (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7)) n := by
  induction n with
  | zero => rfl
  | succ n ih => rw [Ref.prods, trips, ih]

end Cert.Proof

end
-- ==== Proof.lean ====
/-
  The certificate: the program's claims put together.
-/
module

public import proofs.«01_k».proof.Defs
public import proofs.«01_k».proof.Proof.Frame
public import proofs.«01_k».proof.Proof.Equal

@[expose] public section

noncomputable section

namespace Cert.Proof

open Idealize.ShloMosaic Idealize.ShloMosaic.TcCoe
open Idealize.SL Idealize.SL.Sem

attribute [local instance] Cert.Kernel.Gen.facts Cert.KernelIdeal.Gen.facts Ref.facts Pre.facts

set_option maxRecDepth 65536

/-- The reference over the reals: every run ends, its arguments as launched and its semaphores at zero. -/
theorem frame_reference : Cert.quiescent_ReferenceIdeal := fun m g _ => by
  refine (θ_run _ _ _).mono ?_ (Ref.run (F := Ideal) m g)
  rintro r ⟨h, hs⟩
  refine ⟨fun c => ?_, hs⟩
  have a := (h c).1
  simp only [Ref.args, List.forall_mem_cons] at a
  obtain ⟨a0, a1, a2, a3, a4, a5, a6, a7, -⟩ := a
  exact ⟨a0, a1, a2, a3, a4, a5, a6, a7⟩

/-- **Over the reals the kernel and the reference give one result**, on any arrays of a Tanner graph. -/
theorem same_result : Cert.algebraic_KernelIdeal_ReferenceIdeal_pre_tanner_graph := fun m g m' g' hp hm => by
  refine ⟨fun c => outOf m c, (θ_run _ _ _).mono ?_ (run (F := Ideal) m g), (θ_run _ _ _).mono ?_ (Ref.run (F := Ideal) m' g')⟩
  · rintro r ⟨h, -⟩ c
    obtain ⟨a0, a1, a2, a3, a4, a5, a6, a7, a8⟩ := h c
    exact ⟨a8, a0, a1, a2, a3, a4, a5, a6, a7⟩
  · rintro r ⟨h, -⟩ c
    obtain ⟨a, e⟩ := h c
    simp only [Ref.args, List.forall_mem_cons] at a
    obtain ⟨a0, a1, a2, a3, a4, a5, a6, a7, -⟩ := a
    refine ⟨e.trans ?_, a0, a1, a2, a3, a4, a5, a6, a7⟩
    obtain ⟨e0, e1, e2, e3, e4, e5, e6, e7⟩ := hm c
    rw [prods_eq, e0, e1, e2, e3, e4, e5, e6, e7]
    exact ((outOf_eq m c).trans (results_eq _ _ _ _ _ _ _ _ (hp c))).symm

/-- The kernel, its reading over the reals and the reference run, keep their arguments and leave every semaphore at
    zero; and over the reals the kernel and the reference give one result. -/
theorem claim : Cert.Claim :=
  ⟨Cert.Kernel.Gen.facts, Cert.KernelIdeal.Gen.facts, Ref.facts, Pre.facts, frame_kernel, frame_ideal,
    fun m g _ => frame_ideal m g trivial, frame_reference, fun m g _ => frame_reference m g trivial, trivial, same_result⟩

end Cert.Proof

end
